-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInOdd (m : (ℓ : Loc Cert.KernelInOdd.nD Cert.KernelInOdd.τ Cert.KernelInOdd.sig) → Buf (Elt Bits) ℓ) : Prop :=
  True

def Pre_KernelInOddIdeal (m : (ℓ : Loc Cert.KernelInOddIdeal.nD Cert.KernelInOddIdeal.τ Cert.KernelInOddIdeal.sig) → Buf (Elt Ideal) ℓ) : Prop :=
  True

def Pre_ReferenceInOddIdeal (m : (ℓ : Loc Cert.ReferenceInOddIdeal.nD Cert.ReferenceInOddIdeal.τ Cert.ReferenceInOddIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelInOdd [hKernelInOdd : Cert.KernelInOdd.Facts] : Prop :=
  ∀ (m : (ℓ : Loc Cert.KernelInOdd.nD Cert.KernelInOdd.τ Cert.KernelInOdd.sig) → Buf (Elt Bits) ℓ) (g : Dev Cert.KernelInOdd.nD → PrngReg), Pre_KernelInOdd m →
    θ_run (Cert.KernelInOdd.defs (F := Bits)) (onTc (τ := Cert.KernelInOdd.τ) (Cert.KernelInOdd.main (F := Bits))) ⟨m, fun _ => 0, g⟩ (fun r => (∀ c : Dev Cert.KernelInOdd.nD,
      r.2.mem ((c.tc : Thread Cert.KernelInOdd.nD Cert.KernelInOdd.τ).loc Cert.KernelInOdd.main_arg0) = m ((c.tc : Thread Cert.KernelInOdd.nD Cert.KernelInOdd.τ).loc Cert.KernelInOdd.main_arg0)
      ∧ r.2.mem ((c.tc : Thread Cert.KernelInOdd.nD Cert.KernelInOdd.τ).loc Cert.KernelInOdd.main_arg1) = m ((c.tc : Thread Cert.KernelInOdd.nD Cert.KernelInOdd.τ).loc Cert.KernelInOdd.main_arg1)
      ∧ r.2.mem ((c.tc : Thread Cert.KernelInOdd.nD Cert.KernelInOdd.τ).loc Cert.KernelInOdd.main_arg2) = m ((c.tc : Thread Cert.KernelInOdd.nD Cert.KernelInOdd.τ).loc Cert.KernelInOdd.main_arg2)
      ∧ r.2.mem ((c.tc : Thread Cert.KernelInOdd.nD Cert.KernelInOdd.τ).loc Cert.KernelInOdd.main_arg3) = m ((c.tc : Thread Cert.KernelInOdd.nD Cert.KernelInOdd.τ).loc Cert.KernelInOdd.main_arg3))
      ∧ r.2.sem = fun _ => 0)

def quiescent_KernelInOddIdeal [hKernelInOddIdeal : Cert.KernelInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg), Pre_KernelInOddIdeal m →
    θ_run (Cert.KernelInOddIdeal.defs (F := Ideal)) (onTc (τ := Cert.KernelInOddIdeal.τ) (Cert.KernelInOddIdeal.main (F := Ideal))) ⟨m, fun _ => 0, g⟩ (fun r => (∀ c : Dev Cert.KernelInOddIdeal.nD,
      r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
      ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
      ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2)
      ∧ r.2.mem ((c.tc : Thread Cert.KernelInOddIdeal.nD Cert.KernelInOddIdeal.τ).loc Cert.KernelInOddIdeal.main_arg3) = m ((c.tc : Thread Cert.KernelInOddIdeal.nD Cert.KernelInOddIdeal.τ).loc Cert.KernelInOddIdeal.main_arg3))
      ∧ r.2.sem = fun _ => 0)

def quiescent_ReferenceInOddIdeal [hReferenceInOddIdeal : Cert.ReferenceInOddIdeal.Facts] : Prop :=
  ∀ (m : (ℓ : Loc Cert.ReferenceInOddIdeal.nD Cert.ReferenceInOddIdeal.τ Cert.ReferenceInOddIdeal.sig) → Buf (Elt Ideal) ℓ) (g : Dev Cert.ReferenceInOddIdeal.nD → PrngReg), Pre_ReferenceInOddIdeal m →
    θ_run (Cert.ReferenceInOddIdeal.defs (F := Ideal)) (onTc (τ := Cert.ReferenceInOddIdeal.τ) (Cert.ReferenceInOddIdeal.main (F := Ideal))) ⟨m, fun _ => 0, g⟩ (fun r => (∀ c : Dev Cert.ReferenceInOddIdeal.nD,
      r.2.mem ((c.tc : Thread Cert.ReferenceInOddIdeal.nD Cert.ReferenceInOddIdeal.τ).loc Cert.ReferenceInOddIdeal.main_arg0) = m ((c.tc : Thread Cert.ReferenceInOddIdeal.nD Cert.ReferenceInOddIdeal.τ).loc Cert.ReferenceInOddIdeal.main_arg0)
      ∧ r.2.mem ((c.tc : Thread Cert.ReferenceInOddIdeal.nD Cert.ReferenceInOddIdeal.τ).loc Cert.ReferenceInOddIdeal.main_arg1) = m ((c.tc : Thread Cert.ReferenceInOddIdeal.nD Cert.ReferenceInOddIdeal.τ).loc Cert.ReferenceInOddIdeal.main_arg1)
      ∧ r.2.mem ((c.tc : Thread Cert.ReferenceInOddIdeal.nD Cert.ReferenceInOddIdeal.τ).loc Cert.ReferenceInOddIdeal.main_arg2) = m ((c.tc : Thread Cert.ReferenceInOddIdeal.nD Cert.ReferenceInOddIdeal.τ).loc Cert.ReferenceInOddIdeal.main_arg2)
      ∧ r.2.mem ((c.tc : Thread Cert.ReferenceInOddIdeal.nD Cert.ReferenceInOddIdeal.τ).loc Cert.ReferenceInOddIdeal.main_arg3) = m ((c.tc : Thread Cert.ReferenceInOddIdeal.nD Cert.ReferenceInOddIdeal.τ).loc Cert.ReferenceInOddIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v19) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v55) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelInOdd_KernelInOddIdeal : Prop :=
  True

def algebraic_KernelInOddIdeal_ReferenceInOddIdeal [hKernelInOddIdeal : Cert.KernelInOddIdeal.Facts] [hReferenceInOddIdeal : Cert.ReferenceInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg)
    (m' : (ℓ : Loc Cert.ReferenceInOddIdeal.nD Cert.ReferenceInOddIdeal.τ Cert.ReferenceInOddIdeal.sig) → Buf (Elt Ideal) ℓ) (g' : Dev Cert.ReferenceInOddIdeal.nD → PrngReg), Pre_KernelInOddIdeal m →
    (∀ c : Dev Cert.KernelInOddIdeal.nD,
      m' ((c.tc : Thread Cert.ReferenceInOddIdeal.nD Cert.ReferenceInOddIdeal.τ).loc Cert.ReferenceInOddIdeal.main_arg0) = m ((c.tc : Thread Cert.KernelInOddIdeal.nD Cert.KernelInOddIdeal.τ).loc Cert.KernelInOddIdeal.main_arg0)
      ∧ m' ((c.tc : Thread Cert.ReferenceInOddIdeal.nD Cert.ReferenceInOddIdeal.τ).loc Cert.ReferenceInOddIdeal.main_arg1) = m ((c.tc : Thread Cert.KernelInOddIdeal.nD Cert.KernelInOddIdeal.τ).loc Cert.KernelInOddIdeal.main_arg1)
      ∧ m' ((c.tc : Thread Cert.ReferenceInOddIdeal.nD Cert.ReferenceInOddIdeal.τ).loc Cert.ReferenceInOddIdeal.main_arg2) = m ((c.tc : Thread Cert.KernelInOddIdeal.nD Cert.KernelInOddIdeal.τ).loc Cert.KernelInOddIdeal.main_arg2)
      ∧ m' ((c.tc : Thread Cert.ReferenceInOddIdeal.nD Cert.ReferenceInOddIdeal.τ).loc Cert.ReferenceInOddIdeal.main_arg3) = m ((c.tc : Thread Cert.KernelInOddIdeal.nD Cert.KernelInOddIdeal.τ).loc Cert.KernelInOddIdeal.main_arg3)) →
    ∃ (v0 : (c : Dev Cert.KernelInOddIdeal.nD) → Buf (Elt Ideal) ((c.tc : Thread Cert.KernelInOddIdeal.nD Cert.KernelInOddIdeal.τ).loc Cert.KernelInOddIdeal.main_v2)),
      θ_run (Cert.KernelInOddIdeal.defs (F := Ideal)) (onTc (τ := Cert.KernelInOddIdeal.τ) (Cert.KernelInOddIdeal.main (F := Ideal))) ⟨m, fun _ => 0, g⟩ (fun r => ∀ c : Dev Cert.KernelInOddIdeal.nD,
          r.2.mem ((c.tc : Thread Cert.KernelInOddIdeal.nD Cert.KernelInOddIdeal.τ).loc Cert.KernelInOddIdeal.main_v2) = v0 c
          ∧ r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
          ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
          ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2)
          ∧ r.2.mem ((c.tc : Thread Cert.KernelInOddIdeal.nD Cert.KernelInOddIdeal.τ).loc Cert.KernelInOddIdeal.main_arg3) = m ((c.tc : Thread Cert.KernelInOddIdeal.nD Cert.KernelInOddIdeal.τ).loc Cert.KernelInOddIdeal.main_arg3))
      ∧ θ_run (Cert.ReferenceInOddIdeal.defs (F := Ideal)) (onTc (τ := Cert.ReferenceInOddIdeal.τ) (Cert.ReferenceInOddIdeal.main (F := Ideal))) ⟨m', fun _ => 0, g'⟩ (fun r => ∀ c : Dev Cert.ReferenceInOddIdeal.nD,
          r.2.mem ((c.tc : Thread Cert.ReferenceInOddIdeal.nD Cert.ReferenceInOddIdeal.τ).loc Cert.ReferenceInOddIdeal.main_v55) = v0 c
          ∧ r.2.mem ((c.tc : Thread Cert.ReferenceInOddIdeal.nD Cert.ReferenceInOddIdeal.τ).loc Cert.ReferenceInOddIdeal.main_arg0) = m' ((c.tc : Thread Cert.ReferenceInOddIdeal.nD Cert.ReferenceInOddIdeal.τ).loc Cert.ReferenceInOddIdeal.main_arg0)
          ∧ r.2.mem ((c.tc : Thread Cert.ReferenceInOddIdeal.nD Cert.ReferenceInOddIdeal.τ).loc Cert.ReferenceInOddIdeal.main_arg1) = m' ((c.tc : Thread Cert.ReferenceInOddIdeal.nD Cert.ReferenceInOddIdeal.τ).loc Cert.ReferenceInOddIdeal.main_arg1)
          ∧ r.2.mem ((c.tc : Thread Cert.ReferenceInOddIdeal.nD Cert.ReferenceInOddIdeal.τ).loc Cert.ReferenceInOddIdeal.main_arg2) = m' ((c.tc : Thread Cert.ReferenceInOddIdeal.nD Cert.ReferenceInOddIdeal.τ).loc Cert.ReferenceInOddIdeal.main_arg2)
          ∧ r.2.mem ((c.tc : Thread Cert.ReferenceInOddIdeal.nD Cert.ReferenceInOddIdeal.τ).loc Cert.ReferenceInOddIdeal.main_arg3) = m' ((c.tc : Thread Cert.ReferenceInOddIdeal.nD Cert.ReferenceInOddIdeal.τ).loc Cert.ReferenceInOddIdeal.main_arg3))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v20) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v6)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v6) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v323) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelInOdd : Cert.KernelInOdd.Facts) (hKernelInOddIdeal : Cert.KernelInOddIdeal.Facts) (hReferenceInOddIdeal : Cert.ReferenceInOddIdeal.Facts) (hKernelAda : Cert.KernelAda.Facts) (hKernelAdaIdeal : Cert.KernelAdaIdeal.Facts) (hReferenceAdaIdeal : Cert.ReferenceAdaIdeal.Facts) (hKernelConv : Cert.KernelConv.Facts) (hKernelConvIdeal : Cert.KernelConvIdeal.Facts) (hReferenceConvIdeal : Cert.ReferenceConvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInOdd (hKernelInOdd := hKernelInOdd)
    ∧ quiescent_KernelInOddIdeal (hKernelInOddIdeal := hKernelInOddIdeal)
    ∧ quiescent_ReferenceInOddIdeal (hReferenceInOddIdeal := hReferenceInOddIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelInOdd_KernelInOddIdeal
    ∧ algebraic_KernelInOddIdeal_ReferenceInOddIdeal (hKernelInOddIdeal := hKernelInOddIdeal) (hReferenceInOddIdeal := hReferenceInOddIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelConv_KernelConvIdeal
    ∧ algebraic_KernelConvIdeal_ReferenceConvIdeal (hKernelConvIdeal := hKernelConvIdeal) (hReferenceConvIdeal := hReferenceConvIdeal)
-- ==== Pre_finite.lean ====
abbrev S2x16640x1024 : Shape := ⟨3, ![2, 16640, 1024]⟩
abbrev S16640x1024 : Shape := ⟨2, ![16640, 1024]⟩
abbrev S16640x6144 : Shape := ⟨2, ![16640, 6144]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S2x16640x1024 : S_.BroadcastsInDim S2x16640x1024 (![] : Fin 0 → Fin S2x16640x1024.rank)
  reducesTo_S2x16640x1024_S_d0_1_2 : S2x16640x1024.ReducesTo [0, 1, 2] S_
  h_S_ : 0 < S_.numel
  bcast_S_S16640x1024 : S_.BroadcastsInDim S16640x1024 (![] : Fin 0 → Fin S16640x1024.rank)
  reducesTo_S16640x1024_S_d0_1 : S16640x1024.ReducesTo [0, 1] S_
  slices_S16640x6144_S16640x1024_0_4096 : S16640x6144.Slices ![0, 4096] S16640x1024
  bcast_S_S64 : S_.BroadcastsInDim S64 (![] : Fin 0 → Fin S64.rank)
  reducesTo_S64_S_d0 : S64.ReducesTo [0] S_

variable [Facts]

def fn_part2 {F : FTy → Type} [FloatOps F] (main_v32 : IVec S_ 1) (main_v33 : FVec F S64 .f32) (main_v34 : FVec F S64 .f32) : IVec S_ 1 :=
  let main_v35 : IVec S64 1 := cmpf .olt main_v33 main_v34
  let main_c_11 : IVec S_ 1 := constantI S_ 1 1#1
  let main_v36 : IVec S_ 1 := (fun x v => Host.reduce IntOp.andi x v reducesTo_S64_S_d0 h_S_) main_v35 main_c_11
  let main_v37 : IVec S_ 1 := andi main_v32 main_v36
  main_v37

def fn_part1 {F : FTy → Type} [FloatOps F] (main_arg3 : FVec F S64 .f32) (main_arg4 : FVec F S64 .f32) (main_arg5 : FVec F S64 .f32) (main_arg6 : FVec F S64 .f32) (main_v17 : IVec S_ 1) : IVec S_ 1 :=
  let main_v18 : FVec F S64 .f32 := Host.absf main_arg3
  let main_cst_4 : FVec F S_ .f32 := constant S_ .f32 0x7F800000#32
  let main_v19 : FVec F S64 .f32 := broadcastInDim S64 ![] bcast_S_S64 main_cst_4
  let main_v20 : IVec S64 1 := cmpf .olt main_v18 main_v19
  let main_c_5 : IVec S_ 1 := constantI S_ 1 1#1
  let main_v21 : IVec S_ 1 := (fun x v => Host.reduce IntOp.andi x v reducesTo_S64_S_d0 h_S_) main_v20 main_c_5
  let main_v22 : IVec S_ 1 := andi main_v17 main_v21
  let main_v23 : FVec F S64 .f32 := Host.absf main_arg4
  let main_cst_6 : FVec F S_ .f32 := constant S_ .f32 0x7F800000#32
  let main_v24 : FVec F S64 .f32 := broadcastInDim S64 ![] bcast_S_S64 main_cst_6
  let main_v25 : IVec S64 1 := cmpf .olt main_v23 main_v24
  let main_c_7 : IVec S_ 1 := constantI S_ 1 1#1
  let main_v26 : IVec S_ 1 := (fun x v => Host.reduce IntOp.andi x v reducesTo_S64_S_d0 h_S_) main_v25 main_c_7
  let main_v27 : IVec S_ 1 := andi main_v22 main_v26
  let main_v28 : FVec F S64 .f32 := Host.absf main_arg5
  let main_cst_8 : FVec F S_ .f32 := constant S_ .f32 0x7F800000#32
  let main_v29 : FVec F S64 .f32 := broadcastInDim S64 ![] bcast_S_S64 main_cst_8
  let main_v30 : IVec S64 1 := cmpf .olt main_v28 main_v29
  let main_c_9 : IVec S_ 1 := constantI S_ 1 1#1
  let main_v31 : IVec S_ 1 := (fun x v => Host.reduce IntOp.andi x v reducesTo_S64_S_d0 h_S_) main_v30 main_c_9
  let main_v32 : IVec S_ 1 := andi main_v27 main_v31
  let main_v33 : FVec F S64 .f32 := Host.absf main_arg6
  let main_cst_10 : FVec F S_ .f32 := constant S_ .f32 0x7F800000#32
  let main_v34 : FVec F S64 .f32 := broadcastInDim S64 ![] bcast_S_S64 main_cst_10
  fn_part2 (F := F) main_v32 main_v33 main_v34

def fn {F : FTy → Type} [FloatOps F] (main_arg0 : FVec F S2x16640x1024 .bf16) (main_arg1 : FVec F S16640x1024 .bf16) (main_arg2 : FVec F S16640x6144 .bf16) (main_arg3 : FVec F S64 .f32) (main_arg4 : FVec F S64 .f32) (main_arg5 : FVec F S64 .f32) (main_arg6 : FVec F S64 .f32) (main_arg7 : FVec F S128 .f32) : IVec S_ 1 :=
  let main_v0 : FVec F S2x16640x1024 .f32 := (extf .f32 · bitsLt_bf16_f32) main_arg0
  let main_v1 : FVec F S2x16640x1024 .f32 := Host.absf main_v0
  let main_cst : FVec F S_ .f32 := constant S_ .f32 0x7F800000#32
  let main_v2 : FVec F S2x16640x1024 .f32 := broadcastInDim S2x16640x1024 ![] bcast_S_S2x16640x1024 main_cst
  let main_v3 : IVec S2x16640x1024 1 := cmpf .olt main_v1 main_v2
  let main_c : IVec S_ 1 := constantI S_ 1 1#1
  let main_v4 : IVec S_ 1 := (fun x v => Host.reduce IntOp.andi x v reducesTo_S2x16640x1024_S_d0_1_2 h_S_) main_v3 main_c
  let main_v5 : FVec F S16640x1024 .f32 := (extf .f32 · bitsLt_bf16_f32) main_arg1
  let main_v6 : FVec F S16640x1024 .f32 := Host.absf main_v5
  let main_cst_0 : FVec F S_ .f32 := constant S_ .f32 0x7F800000#32
  let main_v7 : FVec F S16640x1024 .f32 := broadcastInDim S16640x1024 ![] bcast_S_S16640x1024 main_cst_0
  let main_v8 : IVec S16640x1024 1 := cmpf .olt main_v6 main_v7
  let main_c_1 : IVec S_ 1 := constantI S_ 1 1#1
  let main_v9 : IVec S_ 1 := (fun x v => Host.reduce IntOp.andi x v reducesTo_S16640x1024_S_d0_1 h_S_) main_v8 main_c_1
  let main_v10 : IVec S_ 1 := andi main_v4 main_v9
  let main_v11 : FVec F S16640x1024 .bf16 := (extractStridedSlice S16640x1024 ![0, 4096] · slices_S16640x6144_S16640x1024_0_4096) main_arg2
  let main_v12 : FVec F S16640x1024 .f32 := (extf .f32 · bitsLt_bf16_f32) main_v11
  let main_v13 : FVec F S16640x1024 .f32 := Host.absf main_v12
  let main_cst_2 : FVec F S_ .f32 := constant S_ .f32 0x7F800000#32
  let main_v14 : FVec F S16640x1024 .f32 := broadcastInDim S16640x1024 ![] bcast_S_S16640x1024 main_cst_2
  let main_v15 : IVec S16640x1024 1 := cmpf .olt main_v13 main_v14
  let main_c_3 : IVec S_ 1 := constantI S_ 1 1#1
  let main_v16 : IVec S_ 1 := (fun x v => Host.reduce IntOp.andi x v reducesTo_S16640x1024_S_d0_1 h_S_) main_v15 main_c_3
  let main_v17 : IVec S_ 1 := andi main_v10 main_v16
  fn_part1 (F := F) main_arg3 main_arg4 main_arg5 main_arg6 main_v17
-- ==== Kernel.lean ====
abbrev S2x16640x1024 : Shape := ⟨3, ![2, 16640, 1024]⟩
abbrev S16640x1024 : Shape := ⟨2, ![16640, 1024]⟩
abbrev S16640x6144 : Shape := ⟨2, ![16640, 6144]⟩
abbrev S64 : Shape := ⟨1, ![64]⟩
abbrev S128 : Shape := ⟨1, ![128]⟩
abbrev S_ : Shape := ⟨0, ![]⟩
abbrev S8x128 : Shape := ⟨2, ![8, 128]⟩
abbrev S1x64 : Shape := ⟨2, ![1, 64]⟩
abbrev S4x64 : Shape := ⟨2, ![4, 64]⟩
abbrev S1 : Shape := ⟨1, ![1]⟩
abbrev S2 : Shape := ⟨1, ![2]⟩
abbrev S1x128 : Shape := ⟨2, ![1, 128]⟩
abbrev S2x256x128 : Shape := ⟨3, ![2, 256, 128]⟩
abbrev S16640x128 : Shape := ⟨2, ![16640, 128]⟩
abbrev S256x128 : Shape := ⟨2, ![256, 128]⟩
abbrev S512x128 : Shape := ⟨2, ![512, 128]⟩
abbrev S512x1 : Shape := ⟨2, ![512, 1]⟩
abbrev S1280x128 : Shape := ⟨2, ![1280, 128]⟩
abbrev S512x1280 : Shape := ⟨2, ![512, 1280]⟩
abbrev S512 : Shape := ⟨1, ![512]⟩
abbrev S1x1 : Shape := ⟨2, ![1, 1]⟩
abbrev S256 : Shape := ⟨1, ![256]⟩
abbrev S256x1 : Shape := ⟨2, ![256, 1]⟩
abbrev S512x256 : Shape := ⟨2, ![512, 256]⟩

abbrev nBuf : Space → Nat
  | .hbm => 23
  | .vmem => 12
  | .smem => 0
  | _ => 0

abbrev bufTy : (tb : Table) → Fin (tcTables nBuf tb) → BufTy
  | .hbm, ⟨0, _⟩ => ⟨S2x16640x1024, .bf16⟩
  | .hbm, ⟨1, _⟩ => ⟨S16640x1024, .bf16⟩
  | .hbm, ⟨2, _⟩ => ⟨S16640x6144, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S8x128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x128, .f32⟩
  | .hbm, ⟨21, _⟩ => ⟨S1x128, .f32⟩
  | .hbm, ⟨22, _⟩ => ⟨S16640x1024, .bf16⟩
  | .local _ .vmem, ⟨0, _⟩ => ⟨S2x256x128, .bf16⟩
  | .local _ .vmem, ⟨1, _⟩ => ⟨S2x256x128, .bf16⟩
  | .local _ .vmem, ⟨2, _⟩ => ⟨S16640x128, .bf16⟩
  | .local _ .vmem, ⟨3, _⟩ => ⟨S16640x128, .bf16⟩
  | .local _ .vmem, ⟨4, _⟩ => ⟨S16640x128, .bf16⟩
  | .local _ .vmem, ⟨5, _⟩ => ⟨S16640x128, .bf16⟩
  | .local _ .vmem, ⟨6, _⟩ => ⟨S256x128, .bf16⟩
  | .local _ .vmem, ⟨7, _⟩ => ⟨S256x128, .bf16⟩
  | .local _ .vmem, ⟨8, _⟩ => ⟨S8x128, .f32⟩
  | .local _ .vmem, ⟨9, _⟩ => ⟨S1x128, .f32⟩
  | .local _ .vmem, ⟨10, _⟩ => ⟨S256x128, .bf16⟩
  | .local _ .vmem, ⟨11, _⟩ => ⟨S256x128, .bf16⟩
  | _, _ => ⟨S2x16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 65], ![false, false]⟩

def k0_cond1 (i : grid0.Coords) : BitVec 1 :=
  let arg1 : BitVec 32 := BitVec.ofNat 32 (i 1).val
  let c64_i32 : BitVec 32 := 64#32
  let v5 : BitVec 1 := Scalar.cmpi .slt arg1 c64_i32
  let v6 : BitVec 32 := Scalar.extui v5
  let c0_i32 : BitVec 32 := 0#32
  let v7 : BitVec 1 := Scalar.cmpi .ne v6 c0_i32
  v7

@[reducible] def k0_t1_loop : Scf.Loop 32 :=
  let c0_i32_6 : BitVec 32 := 0#32
  let c13_i32 : BitVec 32 := 13#32
  let v11 : BitVec 32 := Scalar.addi c0_i32_6 c13_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c1280_i32 : BitVec 32 := 1280#32
  let v66 : BitVec 32 := Scalar.muli arg9 c1280_i32
  v66
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c1280_i32 : BitVec 32 := 1280#32
  let v66 : BitVec 32 := Scalar.muli arg9 c1280_i32
  let v67 : BitVec 32 := v66
  let v68 : Index := Scalar.indexCast v67
  let c0_26 : Index := 0#32
  ![v68.toNat, 0]
def k0_cond2 (i : grid0.Coords) : BitVec 1 :=
  let arg1 : BitVec 32 := BitVec.ofNat 32 (i 1).val
  let c64_i32_4 : BitVec 32 := 64#32
  let v8 : BitVec 1 := Scalar.cmpi .eq arg1 c64_i32_4
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16640x1024 : Shape := ⟨3, ![2, 16640, 1024]⟩
abbrev S16640x1024 : Shape := ⟨2, ![16640, 1024]⟩
abbrev S16640x6144 : Shape := ⟨2, ![16640, 6144]⟩
abbrev S64 : Shape := ⟨1, ![64]⟩
abbrev S128 : Shape := ⟨1, ![128]⟩
abbrev S2x16640x8x128 : Shape := ⟨4, ![2, 16640, 8, 128]⟩
abbrev S16640x8x2x128 : Shape := ⟨4, ![16640, 8, 2, 128]⟩
abbrev S16640x8x128 : Shape := ⟨3, ![16640, 8, 128]⟩
abbrev S_ : Shape := ⟨0, ![]⟩
abbrev S16384x8x2x128 : Shape := ⟨4, ![16384, 8, 2, 128]⟩
abbrev S8x16640x16384x2 : Shape := ⟨4, ![8, 16640, 16384, 2]⟩
abbrev S8x2x16384x16640 : Shape := ⟨4, ![8, 2, 16384, 16640]⟩
abbrev S8x2x16384 : Shape := ⟨3, ![8, 2, 16384]⟩
abbrev S8x2x16384x1 : Shape := ⟨4, ![8, 2, 16384, 1]⟩
abbrev S8x1x16384x16640 : Shape := ⟨4, ![8, 1, 16384, 16640]⟩
abbrev S8x16384x16640 : Shape := ⟨3, ![8, 16384, 16640]⟩
abbrev S8x128x16384 : Shape := ⟨3, ![8, 128, 16384]⟩
abbrev S16384x8x128 : Shape := ⟨3, ![16384, 8, 128]⟩
abbrev S256x8x2x128 : Shape := ⟨4, ![256, 8, 2, 128]⟩
abbrev S256x8x128 : Shape := ⟨3, ![256, 8, 128]⟩
abbrev S8x256x256x2 : Shape := ⟨4, ![8, 256, 256, 2]⟩
abbrev S8x2x256x256 : Shape := ⟨4, ![8, 2, 256, 256]⟩
abbrev S8x2x256 : Shape := ⟨3, ![8, 2, 256]⟩
abbrev S8x2x256x1 : Shape := ⟨4, ![8, 2, 256, 1]⟩
abbrev S8x1x256x256 : Shape := ⟨4, ![8, 1, 256, 256]⟩
abbrev S8x256x256 : Shape := ⟨3, ![8, 256, 256]⟩
abbrev S8x128x256 : Shape := ⟨3, ![8, 128, 256]⟩
abbrev S16640x8 : Shape := ⟨2, ![16640, 8]⟩
abbrev S16640x8x1 : Shape := ⟨3, ![16640, 8, 1]⟩
abbrev S1x1x128 : Shape := ⟨3, ![1, 1, 128]⟩

abbrev nBuf : Space → Nat
  | .hbm => 115
  | .vmem => 0
  | .smem => 0
  | _ => 0

abbrev bufTy : (tb : Table) → Fin (tcTables nBuf tb) → BufTy
  | .hbm, ⟨0, _⟩ => ⟨S2x16640x1024, .bf16⟩
  | .hbm, ⟨1, _⟩ => ⟨S16640x1024, .bf16⟩
  | .hbm, ⟨2, _⟩ => ⟨S16640x6144, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x16640x1024, .f32⟩
  | .hbm, ⟨9, _⟩ => ⟨S2x16640x8x128, .f32⟩
  | .hbm, ⟨10, _⟩ => ⟨S16640x8x2x128, .f32⟩
  | .hbm, ⟨11, _⟩ => ⟨S16640x1024, .f32⟩
  | .hbm, ⟨12, _⟩ => ⟨S16640x8x128, .f32⟩
  | .hbm, ⟨13, _⟩ => ⟨S16640x1024, .bf16⟩
  | .hbm, ⟨14, _⟩ => ⟨S16640x1024, .f32⟩
  | .hbm, ⟨15, _⟩ => ⟨S16640x8x128, .f32⟩
  | .hbm, ⟨16, _⟩ => ⟨S16640x1024, .bf16⟩
  | .hbm, ⟨17, _⟩ => ⟨S16640x1024, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x8x2x128, .f32⟩
  | .hbm, ⟨30, _⟩ => ⟨S8x16640x16384x2, .f32⟩
  | .hbm, ⟨31, _⟩ => ⟨S8x2x16384x16640, .f32⟩
  | .hbm, ⟨32, _⟩ => ⟨S_, .f32⟩
  | .hbm, ⟨33, _⟩ => ⟨S8x2x16384, .f32⟩
  | .hbm, ⟨34, _⟩ => ⟨S_, .f32⟩
  | .hbm, ⟨35, _⟩ => ⟨S8x2x16384, .f32⟩
  | .hbm, ⟨36, _⟩ => ⟨S8x2x16384, .f32⟩
  | .hbm, ⟨37, _⟩ => ⟨S8x2x16384x1, .f32⟩
  | .hbm, ⟨38, _⟩ => ⟨S8x2x16384x16640, .f32⟩
  | .hbm, ⟨39, _⟩ => ⟨S8x2x16384x16640, .f32⟩
  | .hbm, ⟨40, _⟩ => ⟨S8x2x16384x16640, .f32⟩
  | .hbm, ⟨41, _⟩ => ⟨S_, .f32⟩
  | .hbm, ⟨42, _⟩ => ⟨S8x2x16384, .f32⟩
  | .hbm, ⟨43, _⟩ => ⟨S8x2x16384x1, .f32⟩
  | .hbm, ⟨44, _⟩ => ⟨S8x2x16384x16640, .f32⟩
  | .hbm, ⟨45, _⟩ => ⟨S8x2x16384x16640, .f32⟩
  | .hbm, ⟨46, _⟩ => ⟨S8x1x16384x16640, .f32⟩
  | .hbm, ⟨47, _⟩ => ⟨S8x16384x16640, .f32⟩
  | .hbm, ⟨48, _⟩ => ⟨S8x1x16384x16640, .f32⟩
  | .hbm, ⟨49, _⟩ => ⟨S8x16384x16640, .f32⟩
  | .hbm, ⟨50, _⟩ => ⟨S8x16384x16640, .f32⟩
  | .hbm, ⟨51, _⟩ => ⟨S8x16384x16640, .f32⟩
  | .hbm, ⟨52, _⟩ => ⟨S8x16384x16640, .f32⟩
  | .hbm, ⟨53, _⟩ => ⟨S8x128x16384, .f32⟩
  | .hbm, ⟨54, _⟩ => ⟨S16384x8x128, .f32⟩
  | .hbm, ⟨55, _⟩ => ⟨S256x8x2x128, .f32⟩
  | .hbm, ⟨56, _⟩ => ⟨S256x8x128, .f32⟩
  | .hbm, ⟨57, _⟩ => ⟨S256x8x128, .f32⟩
  | .hbm, ⟨58, _⟩ => ⟨S8x256x256x2, .f32⟩
  | .hbm, ⟨59, _⟩ => ⟨S8x2x256x256, .f32⟩
  | .hbm, ⟨60, _⟩ => ⟨S_, .f32⟩
  | .hbm, ⟨61, _⟩ => ⟨S8x2x256, .f32⟩
  | .hbm, ⟨62, _⟩ => ⟨S_, .f32⟩
  | .hbm, ⟨63, _⟩ => ⟨S8x2x256, .f32⟩
  | .hbm, ⟨64, _⟩ => ⟨S8x2x256, .f32⟩
  | .hbm, ⟨65, _⟩ => ⟨S8x2x256x1, .f32⟩
  | .hbm, ⟨66, _⟩ => ⟨S8x2x256x256, .f32⟩
  | .hbm, ⟨67, _⟩ => ⟨S8x2x256x256, .f32⟩
  | .hbm, ⟨68, _⟩ => ⟨S8x2x256x256, .f32⟩
  | .hbm, ⟨69, _⟩ => ⟨S_, .f32⟩
  | .hbm, ⟨70, _⟩ => ⟨S8x2x256, .f32⟩
  | .hbm, ⟨71, _⟩ => ⟨S8x2x256x1, .f32⟩
  | .hbm, ⟨72, _⟩ => ⟨S8x2x256x256, .f32⟩
  | .hbm, ⟨73, _⟩ => ⟨S8x2x256x256, .f32⟩
  | .hbm, ⟨74, _⟩ => ⟨S8x1x256x256, .f32⟩
  | .hbm, ⟨75, _⟩ => ⟨S8x256x256, .f32⟩
  | .hbm, ⟨76, _⟩ => ⟨S8x1x256x256, .f32⟩
  | .hbm, ⟨77, _⟩ => ⟨S8x256x256, .f32⟩
  | .hbm, ⟨78, _⟩ => ⟨S8x256x256, .f32⟩
  | .hbm, ⟨79, _⟩ => ⟨S8x256x256, .f32⟩
  | .hbm, ⟨80, _⟩ => ⟨S8x256x256, .f32⟩
  | .hbm, ⟨81, _⟩ => ⟨S8x128x256, .f32⟩
  | .hbm, ⟨82, _⟩ => ⟨S256x8x128, .f32⟩
  | .hbm, ⟨83, _⟩ => ⟨S16640x8x128, .f32⟩
  | .hbm, ⟨84, _⟩ => ⟨S16640x8x128, .f32⟩
  | .hbm, ⟨85, _⟩ => ⟨S_, .f32⟩
  | .hbm, ⟨86, _⟩ => ⟨S16640x8, .f32⟩
  | .hbm, ⟨87, _⟩ => ⟨S16640x8x1, .f32⟩
  | .hbm, ⟨88, _⟩ => ⟨S_, .f32⟩
  | .hbm, ⟨89, _⟩ => ⟨S16640x8x1, .f32⟩
  | .hbm, ⟨90, _⟩ => ⟨S16640x8x1, .f32⟩
  | .hbm, ⟨91, _⟩ => ⟨S_, .f32⟩
  | .hbm, ⟨92, _⟩ => ⟨S16640x8x1, .f32⟩
  | .hbm, ⟨93, _⟩ => ⟨S16640x8x1, .f32⟩
  | .hbm, ⟨94, _⟩ => ⟨S16640x8x1, .f32⟩
  | .hbm, ⟨95, _⟩ => ⟨S16640x8x128, .f32⟩
  | .hbm, ⟨96, _⟩ => ⟨S16640x8x128, .f32⟩
  | .hbm, ⟨97, _⟩ => ⟨S1x1x128, .f32⟩
  | .hbm, ⟨98, _⟩ => ⟨S16640x8x128, .f32⟩
  | .hbm, ⟨99, _⟩ => ⟨S16640x8x128, .f32⟩
  | .hbm, ⟨100, _⟩ => ⟨S_, .f32⟩
  | .hbm, ⟨101, _⟩ => ⟨S16640x8x128, .f32⟩
  | .hbm, ⟨102, _⟩ => ⟨S16640x8x128, .f32⟩
  | .hbm, ⟨103, _⟩ => ⟨S16640x1024, .f32⟩
  | .hbm, ⟨104, _⟩ => ⟨S16640x1024, .f32⟩
  | .hbm, ⟨105, _⟩ => ⟨S16640x1024, .f32⟩
  | .hbm, ⟨106, _⟩ => ⟨S_, .f32⟩
  | .hbm, ⟨107, _⟩ => ⟨S16640x1024, .f32⟩
  | .hbm, ⟨108, _⟩ => ⟨S16640x1024, .f32⟩
  | .hbm, ⟨109, _⟩ => ⟨S_, .f32⟩
  | .hbm, ⟨110, _⟩ => ⟨S16640x1024, .f32⟩
  | .hbm, ⟨111, _⟩ => ⟨S16640x1024, .f32⟩
  | .hbm, ⟨112, _⟩ => ⟨S16640x1024, .f32⟩
  | .hbm, ⟨113, _⟩ => ⟨S16640x1024, .f32⟩
  | .hbm, ⟨114, _⟩ => ⟨S16640x1024, .bf16⟩
  | _, _ => ⟨S2x16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== KernelOut.lean ====
abbrev S16640x1024 : Shape := ⟨2, ![16640, 1024]⟩
abbrev S16640x2048 : Shape := ⟨2, ![16640, 2048]⟩
abbrev S8x6144 : Shape := ⟨2, ![8, 6144]⟩
abbrev S2048x2048 : Shape := ⟨2, ![2048, 2048]⟩
abbrev S640x1024 : Shape := ⟨2, ![640, 1024]⟩
abbrev S640x2048 : Shape := ⟨2, ![640, 2048]⟩
abbrev S1024x2048 : Shape := ⟨2, ![1024, 2048]⟩
abbrev S1x2048 : Shape := ⟨2, ![1, 2048]⟩
abbrev S640x1 : Shape := ⟨2, ![640, 1]⟩

abbrev nBuf : Space → Nat
  | .hbm => 7
  | .vmem => 10
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S16640x2048, .f32⟩
  | .hbm, ⟨3, _⟩ => ⟨S8x6144, .f32⟩
  | .hbm, ⟨4, _⟩ => ⟨S2048x2048, .f32⟩
  | .hbm, ⟨5, _⟩ => ⟨S2048x2048, .bf16⟩
  | .hbm, ⟨6, _⟩ => ⟨S16640x2048, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S640x2048, .f32⟩
  | .local _ .vmem, ⟨5, _⟩ => ⟨S640x2048, .f32⟩
  | .local _ .vmem, ⟨6, _⟩ => ⟨S8x6144, .f32⟩
  | .local _ .vmem, ⟨7, _⟩ => ⟨S2048x2048, .bf16⟩
  | .local _ .vmem, ⟨8, _⟩ => ⟨S640x2048, .f32⟩
  | .local _ .vmem, ⟨9, _⟩ => ⟨S640x2048, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S16640x1024 : Shape := ⟨2, ![16640, 1024]⟩
abbrev S16640x2048 : Shape := ⟨2, ![16640, 2048]⟩
abbrev S8x6144 : Shape := ⟨2, ![8, 6144]⟩
abbrev S2048x2048 : Shape := ⟨2, ![2048, 2048]⟩
abbrev S1x2048 : Shape := ⟨2, ![1, 2048]⟩
abbrev S2048 : Shape := ⟨1, ![2048]⟩
abbrev S16384x2048 : Shape := ⟨2, ![16384, 2048]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S16640x2048, .f32⟩
  | .hbm, ⟨3, _⟩ => ⟨S8x6144, .f32⟩
  | .hbm, ⟨4, _⟩ => ⟨S2048x2048, .f32⟩
  | .hbm, ⟨5, _⟩ => ⟨S16640x2048, .bf16⟩
  | .hbm, ⟨6, _⟩ => ⟨S16640x2048, .f32⟩
  | .hbm, ⟨7, _⟩ => ⟨S16640x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S16384x2048, .f32⟩
  | .hbm, ⟨13, _⟩ => ⟨S16384x2048, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S16640x2048, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== KernelIn.lean ====
abbrev S16640x2048 : Shape := ⟨2, ![16640, 2048]⟩
abbrev S2048 : Shape := ⟨1, ![2048]⟩
abbrev S8x6144 : Shape := ⟨2, ![8, 6144]⟩
abbrev S2048x7168 : Shape := ⟨2, ![2048, 7168]⟩
abbrev S1x2048 : Shape := ⟨2, ![1, 2048]⟩
abbrev S16640x7168 : Shape := ⟨2, ![16640, 7168]⟩
abbrev S1280x2048 : Shape := ⟨2, ![1280, 2048]⟩
abbrev S2048x1024 : Shape := ⟨2, ![2048, 1024]⟩
abbrev S1280x1024 : Shape := ⟨2, ![1280, 1024]⟩
abbrev S64x2048 : Shape := ⟨2, ![64, 2048]⟩
abbrev S64 : Shape := ⟨1, ![64]⟩
abbrev S64x1 : Shape := ⟨2, ![64, 1]⟩

abbrev nBuf : Space → Nat
  | .hbm => 7
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S8x6144, .f32⟩
  | .hbm, ⟨3, _⟩ => ⟨S2048x7168, .f32⟩
  | .hbm, ⟨4, _⟩ => ⟨S2048x7168, .bf16⟩
  | .hbm, ⟨5, _⟩ => ⟨S1x2048, .f32⟩
  | .hbm, ⟨6, _⟩ => ⟨S16640x7168, .bf16⟩
  | .local _ .vmem, ⟨0, _⟩ => ⟨S1280x2048, .f32⟩
  | .local _ .vmem, ⟨1, _⟩ => ⟨S1280x2048, .f32⟩
  | .local _ .vmem, ⟨2, _⟩ => ⟨S1x2048, .f32⟩
  | .local _ .vmem, ⟨3, _⟩ => ⟨S8x6144, .f32⟩
  | .local _ .vmem, ⟨4, _⟩ => ⟨S2048x1024, .bf16⟩
  | .local _ .vmem, ⟨5, _⟩ => ⟨S2048x1024, .bf16⟩
  | .local _ .vmem, ⟨6, _⟩ => ⟨S1280x1024, .bf16⟩
  | .local _ .vmem, ⟨7, _⟩ => ⟨S1280x1024, .bf16⟩
  | .local _ .vmem, ⟨8, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![13, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c20_i32 : BitVec 32 := 20#32
  let v9 : BitVec 32 := Scalar.addi c0_i32_6 c20_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  v10
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelInIdeal.lean ====
abbrev S16640x2048 : Shape := ⟨2, ![16640, 2048]⟩
abbrev S2048 : Shape := ⟨1, ![2048]⟩
abbrev S8x6144 : Shape := ⟨2, ![8, 6144]⟩
abbrev S2048x7168 : Shape := ⟨2, ![2048, 7168]⟩
abbrev S1x2048 : Shape := ⟨2, ![1, 2048]⟩
abbrev S16640x7168 : Shape := ⟨2, ![16640, 7168]⟩
abbrev S1280x2048 : Shape := ⟨2, ![1280, 2048]⟩
abbrev S2048x1024 : Shape := ⟨2, ![2048, 1024]⟩
abbrev S1280x1024 : Shape := ⟨2, ![1280, 1024]⟩
abbrev S64x2048 : Shape := ⟨2, ![64, 2048]⟩
abbrev S64 : Shape := ⟨1, ![64]⟩
abbrev S64x1 : Shape := ⟨2, ![64, 1]⟩

abbrev nBuf : Space → Nat
  | .hbm => 7
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S8x6144, .f32⟩
  | .hbm, ⟨3, _⟩ => ⟨S2048x7168, .f32⟩
  | .hbm, ⟨4, _⟩ => ⟨S2048x7168, .bf16⟩
  | .hbm, ⟨5, _⟩ => ⟨S1x2048, .f32⟩
  | .hbm, ⟨6, _⟩ => ⟨S16640x7168, .bf16⟩
  | .local _ .vmem, ⟨0, _⟩ => ⟨S1280x2048, .f32⟩
  | .local _ .vmem, ⟨1, _⟩ => ⟨S1280x2048, .f32⟩
  | .local _ .vmem, ⟨2, _⟩ => ⟨S1x2048, .f32⟩
  | .local _ .vmem, ⟨3, _⟩ => ⟨S8x6144, .f32⟩
  | .local _ .vmem, ⟨4, _⟩ => ⟨S2048x1024, .bf16⟩
  | .local _ .vmem, ⟨5, _⟩ => ⟨S2048x1024, .bf16⟩
  | .local _ .vmem, ⟨6, _⟩ => ⟨S1280x1024, .bf16⟩
  | .local _ .vmem, ⟨7, _⟩ => ⟨S1280x1024, .bf16⟩
  | .local _ .vmem, ⟨8, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![13, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c20_i32 : BitVec 32 := 20#32
  let v9 : BitVec 32 := Scalar.addi c0_i32_6 c20_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  v10
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInIdeal.lean ====
abbrev S16640x2048 : Shape := ⟨2, ![16640, 2048]⟩
abbrev S2048 : Shape := ⟨1, ![2048]⟩
abbrev S8x6144 : Shape := ⟨2, ![8, 6144]⟩
abbrev S2048x7168 : Shape := ⟨2, ![2048, 7168]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x7168 : Shape := ⟨2, ![16384, 7168]⟩
abbrev S256x2048 : Shape := ⟨2, ![256, 2048]⟩
abbrev S256 : Shape := ⟨1, ![256]⟩
abbrev S256x1 : Shape := ⟨2, ![256, 1]⟩
abbrev S256x7168 : Shape := ⟨2, ![256, 7168]⟩
abbrev S16640x7168 : Shape := ⟨2, ![16640, 7168]⟩

abbrev nBuf : Space → Nat
  | .hbm => 68
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S8x6144, .f32⟩
  | .hbm, ⟨3, _⟩ => ⟨S2048x7168, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x7168, .f32⟩
  | .hbm, ⟨35, _⟩ => ⟨S256x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S256x2048, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S1x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S1x2048, .f32⟩
  | .hbm, ⟨60, _⟩ => ⟨S256x2048, .f32⟩
  | .hbm, ⟨61, _⟩ => ⟨S256x2048, .f32⟩
  | .hbm, ⟨62, _⟩ => ⟨S1x2048, .f32⟩
  | .hbm, ⟨63, _⟩ => ⟨S256x2048, .f32⟩
  | .hbm, ⟨64, _⟩ => ⟨S256x2048, .f32⟩
  | .hbm, ⟨65, _⟩ => ⟨S256x7168, .f32⟩
  | .hbm, ⟨66, _⟩ => ⟨S16640x7168, .f32⟩
  | .hbm, ⟨67, _⟩ => ⟨S16640x7168, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== KernelInOdd.lean ====
abbrev S16640x2048 : Shape := ⟨2, ![16640, 2048]⟩
abbrev S2048 : Shape := ⟨1, ![2048]⟩
abbrev S8x6144 : Shape := ⟨2, ![8, 6144]⟩
abbrev S2048x6144 : Shape := ⟨2, ![2048, 6144]⟩
abbrev S1x2048 : Shape := ⟨2, ![1, 2048]⟩
abbrev S16640x6144 : Shape := ⟨2, ![16640, 6144]⟩
abbrev S1280x2048 : Shape := ⟨2, ![1280, 2048]⟩
abbrev S2048x1024 : Shape := ⟨2, ![2048, 1024]⟩
abbrev S1280x1024 : Shape := ⟨2, ![1280, 1024]⟩
abbrev S64x2048 : Shape := ⟨2, ![64, 2048]⟩
abbrev S64 : Shape := ⟨1, ![64]⟩
abbrev S64x1 : Shape := ⟨2, ![64, 1]⟩

abbrev nBuf : Space → Nat
  | .hbm => 7
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S8x6144, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S16640x6144, .bf16⟩
  | .local _ .vmem, ⟨0, _⟩ => ⟨S1280x2048, .f32⟩
  | .local _ .vmem, ⟨1, _⟩ => ⟨S1280x2048, .f32⟩
  | .local _ .vmem, ⟨2, _⟩ => ⟨S1x2048, .f32⟩
  | .local _ .vmem, ⟨3, _⟩ => ⟨S8x6144, .f32⟩
  | .local _ .vmem, ⟨4, _⟩ => ⟨S2048x1024, .bf16⟩
  | .local _ .vmem, ⟨5, _⟩ => ⟨S2048x1024, .bf16⟩
  | .local _ .vmem, ⟨6, _⟩ => ⟨S1280x1024, .bf16⟩
  | .local _ .vmem, ⟨7, _⟩ => ⟨S1280x1024, .bf16⟩
  | .local _ .vmem, ⟨8, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![13, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c20_i32 : BitVec 32 := 20#32
  let v9 : BitVec 32 := Scalar.addi c0_i32_6 c20_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  v10
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c64_i32 : BitVec 32 := 64#32
  let v10 : BitVec 32 := Scalar.muli arg8 c64_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInOddIdeal.lean ====
abbrev S16640x2048 : Shape := ⟨2, ![16640, 2048]⟩
abbrev S2048 : Shape := ⟨1, ![2048]⟩
abbrev S8x6144 : Shape := ⟨2, ![8, 6144]⟩
abbrev S2048x6144 : Shape := ⟨2, ![2048, 6144]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S256x2048 : Shape := ⟨2, ![256, 2048]⟩
abbrev S256 : Shape := ⟨1, ![256]⟩
abbrev S256x1 : Shape := ⟨2, ![256, 1]⟩
abbrev S256x6144 : Shape := ⟨2, ![256, 6144]⟩
abbrev S16640x6144 : Shape := ⟨2, ![16640, 6144]⟩

abbrev nBuf : Space → Nat
  | .hbm => 68
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S8x6144, .f32⟩
  | .hbm, ⟨3, _⟩ => ⟨S2048x6144, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x6144, .f32⟩
  | .hbm, ⟨35, _⟩ => ⟨S256x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S256x2048, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S1x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S1x2048, .f32⟩
  | .hbm, ⟨60, _⟩ => ⟨S256x2048, .f32⟩
  | .hbm, ⟨61, _⟩ => ⟨S256x2048, .f32⟩
  | .hbm, ⟨62, _⟩ => ⟨S1x2048, .f32⟩
  | .hbm, ⟨63, _⟩ => ⟨S256x2048, .f32⟩
  | .hbm, ⟨64, _⟩ => ⟨S256x2048, .f32⟩
  | .hbm, ⟨65, _⟩ => ⟨S256x6144, .f32⟩
  | .hbm, ⟨66, _⟩ => ⟨S16640x6144, .f32⟩
  | .hbm, ⟨67, _⟩ => ⟨S16640x6144, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== KernelAda.lean ====
abbrev S8x2048 : Shape := ⟨2, ![8, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S8x2048 : Shape := ⟨2, ![8, 2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x6144, .f32⟩
  | .hbm, ⟨13, _⟩ => ⟨S2048x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x6144, .f32⟩
  | .hbm, ⟨30, _⟩ => ⟨S2048x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== KernelConv.lean ====
abbrev S16640x7168 : Shape := ⟨2, ![16640, 7168]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1 : Shape := ⟨1, ![1]⟩
abbrev S1x1024 : Shape := ⟨2, ![1, 1024]⟩
abbrev S16640x1024 : Shape := ⟨2, ![16640, 1024]⟩
abbrev S256x1024 : Shape := ⟨2, ![256, 1024]⟩
abbrev S16x1024 : Shape := ⟨2, ![16, 1024]⟩
abbrev S288x1024 : Shape := ⟨2, ![288, 1024]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S16640x7168, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32x1024, .f32⟩
  | .hbm, ⟨7, _⟩ => ⟨S_, .i32⟩
  | .hbm, ⟨8, _⟩ => ⟨S1, .i32⟩
  | .hbm, ⟨9, _⟩ => ⟨S32x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16640x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .bf16⟩
  | .local _ .vmem, ⟨13, _⟩ => ⟨S256x1024, .bf16⟩
  | .local _ .vmem, ⟨14, _⟩ => ⟨S32x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S288x1024, .f32⟩
  | _, _ => ⟨S16640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c4_i32 : BitVec 32 := 4#32
  let c0_i32 : BitVec 32 := 0#32
  ![v2.toNat, c4_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c5_i32 : BitVec 32 := 5#32
  let c0_i32 : BitVec 32 := 0#32
  ![v2.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceConvIdeal.lean ====
abbrev S16640x7168 : Shape := ⟨2, ![16640, 7168]⟩
abbrev S31x1024 : Shape := ⟨2, ![31, 1024]⟩
abbrev S1024 : Shape := ⟨1, ![1024]⟩
abbrev S16640x1024 : Shape := ⟨2, ![16640, 1024]⟩
abbrev S_ : Shape := ⟨0, ![]⟩
abbrev S16384x1024 : Shape := ⟨2, ![16384, 1024]⟩
abbrev S16414x1024 : Shape := ⟨2, ![16414, 1024]⟩
abbrev S256x1024 : Shape := ⟨2, ![256, 1024]⟩
abbrev S286x1024 : Shape := ⟨2, ![286, 1024]⟩
abbrev S1x1024 : Shape := ⟨2, ![1, 1024]⟩
abbrev S16640 : Shape := ⟨1, ![16640]⟩
abbrev S16640x1 : Shape := ⟨2, ![16640, 1]⟩

abbrev nBuf : Space → Nat
  | .hbm => 356
  | .vmem => 0
  | .smem => 0
  | _ => 0

abbrev hbmTy0_0 (i : Nat) : BufTy := match i % 128 with
  | 0 => ⟨S16640x7168, .bf16⟩
  | 1 => ⟨S31x1024, .f32⟩
  | 2 => ⟨S1024, .f32⟩
  | 3 => ⟨S1024, .f32⟩
  | 4 => ⟨S1024, .f32⟩
  | 5 => ⟨S16640x1024, .bf16⟩
  | 6 => ⟨S16640x1024, .f32⟩
  | 7 => ⟨S16640x1024, .bf16⟩
  | 8 => ⟨S16640x1024, .f32⟩
  | 9 => ⟨S16640x1024, .f32⟩
  | 10 => ⟨S16640x1024, .f32⟩
  | 11 => ⟨S_, .f32⟩
  | 12 => ⟨S16640x1024, .f32⟩
  | 13 => ⟨S16640x1024, .f32⟩
  | 14 => ⟨S_, .f32⟩
  | 15 => ⟨S16640x1024, .f32⟩
  | 16 => ⟨S16640x1024, .f32⟩
  | 17 => ⟨S16640x1024, .f32⟩
  | 18 => ⟨S16384x1024, .f32⟩
  | 19 => ⟨S_, .i32⟩
  | 20 => ⟨S_, .f32⟩
  | 21 => ⟨S16414x1024, .f32⟩
  | 22 => ⟨S256x1024, .f32⟩
  | 23 => ⟨S_, .i32⟩
  | 24 => ⟨S_, .f32⟩
  | 25 => ⟨S286x1024, .f32⟩
  | 26 => ⟨S1x1024, .f32⟩
  | 27 => ⟨S1024, .f32⟩
  | 28 => ⟨S16384x1024, .f32⟩
  | 29 => ⟨S256x1024, .f32⟩
  | 30 => ⟨S16640x1024, .f32⟩
  | 31 => ⟨S1x1024, .f32⟩
  | 32 => ⟨S16640x1024, .f32⟩
  | 33 => ⟨S16640x1024, .f32⟩
  | 34 => ⟨S1x1024, .f32⟩
  | 35 => ⟨S1024, .f32⟩
  | 36 => ⟨S16384x1024, .f32⟩
  | 37 => ⟨S256x1024, .f32⟩
  | 38 => ⟨S16640x1024, .f32⟩
  | 39 => ⟨S1x1024, .f32⟩
  | 40 => ⟨S16640x1024, .f32⟩
  | 41 => ⟨S16640x1024, .f32⟩
  | 42 => ⟨S16640x1024, .f32⟩
  | 43 => ⟨S1x1024, .f32⟩
  | 44 => ⟨S1024, .f32⟩
  | 45 => ⟨S16384x1024, .f32⟩
  | 46 => ⟨S256x1024, .f32⟩
  | 47 => ⟨S16640x1024, .f32⟩
  | 48 => ⟨S1x1024, .f32⟩
  | 49 => ⟨S16640x1024, .f32⟩
  | 50 => ⟨S16640x1024, .f32⟩
  | 51 => ⟨S16640x1024, .f32⟩
  | 52 => ⟨S1x1024, .f32⟩
  | 53 => ⟨S1024, .f32⟩
  | 54 => ⟨S16384x1024, .f32⟩
  | 55 => ⟨S256x1024, .f32⟩
  | 56 => ⟨S16640x1024, .f32⟩
  | 57 => ⟨S1x1024, .f32⟩
  | 58 => ⟨S16640x1024, .f32⟩
  | 59 => ⟨S16640x1024, .f32⟩
  | 60 => ⟨S16640x1024, .f32⟩
  | 61 => ⟨S1x1024, .f32⟩
  | 62 => ⟨S1024, .f32⟩
  | 63 => ⟨S16384x1024, .f32⟩
  | 64 => ⟨S256x1024, .f32⟩
  | 65 => ⟨S16640x1024, .f32⟩
  | 66 => ⟨S1x1024, .f32⟩
  | 67 => ⟨S16640x1024, .f32⟩
  | 68 => ⟨S16640x1024, .f32⟩
  | 69 => ⟨S16640x1024, .f32⟩
  | 70 => ⟨S1x1024, .f32⟩
  | 71 => ⟨S1024, .f32⟩
  | 72 => ⟨S16384x1024, .f32⟩
  | 73 => ⟨S256x1024, .f32⟩
  | 74 => ⟨S16640x1024, .f32⟩
  | 75 => ⟨S1x1024, .f32⟩
  | 76 => ⟨S16640x1024, .f32⟩
  | 77 => ⟨S16640x1024, .f32⟩
  | 78 => ⟨S16640x1024, .f32⟩
  | 79 => ⟨S1x1024, .f32⟩
  | 80 => ⟨S1024, .f32⟩
  | 81 => ⟨S16384x1024, .f32⟩
  | 82 => ⟨S256x1024, .f32⟩
  | 83 => ⟨S16640x1024, .f32⟩
  | 84 => ⟨S1x1024, .f32⟩
  | 85 => ⟨S16640x1024, .f32⟩
  | 86 => ⟨S16640x1024, .f32⟩
  | 87 => ⟨S16640x1024, .f32⟩
  | 88 => ⟨S1x1024, .f32⟩
  | 89 => ⟨S1024, .f32⟩
  | 90 => ⟨S16384x1024, .f32⟩
  | 91 => ⟨S256x1024, .f32⟩
  | 92 => ⟨S16640x1024, .f32⟩
  | 93 => ⟨S1x1024, .f32⟩
  | 94 => ⟨S16640x1024, .f32⟩
  | 95 => ⟨S16640x1024, .f32⟩
  | 96 => ⟨S16640x1024, .f32⟩
  | 97 => ⟨S1x1024, .f32⟩
  | 98 => ⟨S1024, .f32⟩
  | 99 => ⟨S16384x1024, .f32⟩
  | 100 => ⟨S256x1024, .f32⟩
  | 101 => ⟨S16640x1024, .f32⟩
  | 102 => ⟨S1x1024, .f32⟩
  | 103 => ⟨S16640x1024, .f32⟩
  | 104 => ⟨S16640x1024, .f32⟩
  | 105 => ⟨S16640x1024, .f32⟩
  | 106 => ⟨S1x1024, .f32⟩
  | 107 => ⟨S1024, .f32⟩
  | 108 => ⟨S16384x1024, .f32⟩
  | 109 => ⟨S256x1024, .f32⟩
  | 110 => ⟨S16640x1024, .f32⟩
  | 111 => ⟨S1x1024, .f32⟩
  | 112 => ⟨S16640x1024, .f32⟩
  | 113 => ⟨S16640x1024, .f32⟩
  | 114 => ⟨S16640x1024, .f32⟩
  | 115 => ⟨S1x1024, .f32⟩
  | 116 => ⟨S1024, .f32⟩
  | 117 => ⟨S16384x1024, .f32⟩
  | 118 => ⟨S256x1024, .f32⟩
  | 119 => ⟨S16640x1024, .f32⟩
  | 120 => ⟨S1x1024, .f32⟩
  | 121 => ⟨S16640x1024, .f32⟩
  | 122 => ⟨S16640x1024, .f32⟩
  | 123 => ⟨S16640x1024, .f32⟩
  | 124 => ⟨S1x1024, .f32⟩
  | 125 => ⟨S1024, .f32⟩
  | 126 => ⟨S16384x1024, .f32⟩
  | 127 => ⟨S256x1024, .f32⟩
  | _ => ⟨S16640x7168, .bf16⟩

abbrev hbmTy0_1 (i : Nat) : BufTy := match i % 128 with
  | 0 => ⟨S16640x1024, .f32⟩
  | 1 => ⟨S1x1024, .f32⟩
  | 2 => ⟨S16640x1024, .f32⟩
  | 3 => ⟨S16640x1024, .f32⟩
  | 4 => ⟨S16640x1024, .f32⟩
  | 5 => ⟨S1x1024, .f32⟩
  | 6 => ⟨S1024, .f32⟩
  | 7 => ⟨S16384x1024, .f32⟩
  | 8 => ⟨S256x1024, .f32⟩
  | 9 => ⟨S16640x1024, .f32⟩
  | 10 => ⟨S1x1024, .f32⟩
  | 11 => ⟨S16640x1024, .f32⟩
  | 12 => ⟨S16640x1024, .f32⟩
  | 13 => ⟨S16640x1024, .f32⟩
  | 14 => ⟨S1x1024, .f32⟩
  | 15 => ⟨S1024, .f32⟩
  | 16 => ⟨S16384x1024, .f32⟩
  | 17 => ⟨S256x1024, .f32⟩
  | 18 => ⟨S16640x1024, .f32⟩
  | 19 => ⟨S1x1024, .f32⟩
  | 20 => ⟨S16640x1024, .f32⟩
  | 21 => ⟨S16640x1024, .f32⟩
  | 22 => ⟨S16640x1024, .f32⟩
  | 23 => ⟨S1x1024, .f32⟩
  | 24 => ⟨S1024, .f32⟩
  | 25 => ⟨S16384x1024, .f32⟩
  | 26 => ⟨S256x1024, .f32⟩
  | 27 => ⟨S16640x1024, .f32⟩
  | 28 => ⟨S1x1024, .f32⟩
  | 29 => ⟨S16640x1024, .f32⟩
  | 30 => ⟨S16640x1024, .f32⟩
  | 31 => ⟨S16640x1024, .f32⟩
  | 32 => ⟨S1x1024, .f32⟩
  | 33 => ⟨S1024, .f32⟩
  | 34 => ⟨S16384x1024, .f32⟩
  | 35 => ⟨S256x1024, .f32⟩
  | 36 => ⟨S16640x1024, .f32⟩
  | 37 => ⟨S1x1024, .f32⟩
  | 38 => ⟨S16640x1024, .f32⟩
  | 39 => ⟨S16640x1024, .f32⟩
  | 40 => ⟨S16640x1024, .f32⟩
  | 41 => ⟨S1x1024, .f32⟩
  | 42 => ⟨S1024, .f32⟩
  | 43 => ⟨S16384x1024, .f32⟩
  | 44 => ⟨S256x1024, .f32⟩
  | 45 => ⟨S16640x1024, .f32⟩
  | 46 => ⟨S1x1024, .f32⟩
  | 47 => ⟨S16640x1024, .f32⟩
  | 48 => ⟨S16640x1024, .f32⟩
  | 49 => ⟨S16640x1024, .f32⟩
  | 50 => ⟨S1x1024, .f32⟩
  | 51 => ⟨S1024, .f32⟩
  | 52 => ⟨S16384x1024, .f32⟩
  | 53 => ⟨S256x1024, .f32⟩
  | 54 => ⟨S16640x1024, .f32⟩
  | 55 => ⟨S1x1024, .f32⟩
  | 56 => ⟨S16640x1024, .f32⟩
  | 57 => ⟨S16640x1024, .f32⟩
  | 58 => ⟨S16640x1024, .f32⟩
  | 59 => ⟨S1x1024, .f32⟩
  | 60 => ⟨S1024, .f32⟩
  | 61 => ⟨S16384x1024, .f32⟩
  | 62 => ⟨S256x1024, .f32⟩
  | 63 => ⟨S16640x1024, .f32⟩
  | 64 => ⟨S1x1024, .f32⟩
  | 65 => ⟨S16640x1024, .f32⟩
  | 66 => ⟨S16640x1024, .f32⟩
  | 67 => ⟨S16640x1024, .f32⟩
  | 68 => ⟨S1x1024, .f32⟩
  | 69 => ⟨S1024, .f32⟩
  | 70 => ⟨S16384x1024, .f32⟩
  | 71 => ⟨S256x1024, .f32⟩
  | 72 => ⟨S16640x1024, .f32⟩
  | 73 => ⟨S1x1024, .f32⟩
  | 74 => ⟨S16640x1024, .f32⟩
  | 75 => ⟨S16640x1024, .f32⟩
  | 76 => ⟨S16640x1024, .f32⟩
  | 77 => ⟨S1x1024, .f32⟩
  | 78 => ⟨S1024, .f32⟩
  | 79 => ⟨S16384x1024, .f32⟩
  | 80 => ⟨S256x1024, .f32⟩
  | 81 => ⟨S16640x1024, .f32⟩
  | 82 => ⟨S1x1024, .f32⟩
  | 83 => ⟨S16640x1024, .f32⟩
  | 84 => ⟨S16640x1024, .f32⟩
  | 85 => ⟨S16640x1024, .f32⟩
  | 86 => ⟨S1x1024, .f32⟩
  | 87 => ⟨S1024, .f32⟩
  | 88 => ⟨S16384x1024, .f32⟩
  | 89 => ⟨S256x1024, .f32⟩
  | 90 => ⟨S16640x1024, .f32⟩
  | 91 => ⟨S1x1024, .f32⟩
  | 92 => ⟨S16640x1024, .f32⟩
  | 93 => ⟨S16640x1024, .f32⟩
  | 94 => ⟨S16640x1024, .f32⟩
  | 95 => ⟨S1x1024, .f32⟩
  | 96 => ⟨S1024, .f32⟩
  | 97 => ⟨S16384x1024, .f32⟩
  | 98 => ⟨S256x1024, .f32⟩
  | 99 => ⟨S16640x1024, .f32⟩
  | 100 => ⟨S1x1024, .f32⟩
  | 101 => ⟨S16640x1024, .f32⟩
  | 102 => ⟨S16640x1024, .f32⟩
  | 103 => ⟨S16640x1024, .f32⟩
  | 104 => ⟨S1x1024, .f32⟩
  | 105 => ⟨S1024, .f32⟩
  | 106 => ⟨S16384x1024, .f32⟩
  | 107 => ⟨S256x1024, .f32⟩
  | 108 => ⟨S16640x1024, .f32⟩
  | 109 => ⟨S1x1024, .f32⟩
  | 110 => ⟨S16640x1024, .f32⟩
  | 111 => ⟨S16640x1024, .f32⟩
  | 112 => ⟨S16640x1024, .f32⟩
  | 113 => ⟨S1x1024, .f32⟩
  | 114 => ⟨S1024, .f32⟩
  | 115 => ⟨S16384x1024, .f32⟩
  | 116 => ⟨S256x1024, .f32⟩
  | 117 => ⟨S16640x1024, .f32⟩
  | 118 => ⟨S1x1024, .f32⟩
  | 119 => ⟨S16640x1024, .f32⟩
  | 120 => ⟨S16640x1024, .f32⟩
  | 121 => ⟨S16640x1024, .f32⟩
  | 122 => ⟨S1x1024, .f32⟩
  | 123 => ⟨S1024, .f32⟩
  | 124 => ⟨S16384x1024, .f32⟩
  | 125 => ⟨S256x1024, .f32⟩
  | 126 => ⟨S16640x1024, .f32⟩
  | 127 => ⟨S1x1024, .f32⟩
  | _ => ⟨S16640x7168, .bf16⟩

abbrev hbmTy0_2 (i : Nat) : BufTy := match i % 128 with
  | 0 => ⟨S16640x1024, .f32⟩
  | 1 => ⟨S16640x1024, .f32⟩
  | 2 => ⟨S16640x1024, .f32⟩
  | 3 => ⟨S1x1024, .f32⟩
  | 4 => ⟨S1024, .f32⟩
  | 5 => ⟨S16384x1024, .f32⟩
  | 6 => ⟨S256x1024, .f32⟩
  | 7 => ⟨S16640x1024, .f32⟩
  | 8 => ⟨S1x1024, .f32⟩
  | 9 => ⟨S16640x1024, .f32⟩
  | 10 => ⟨S16640x1024, .f32⟩
  | 11 => ⟨S16640x1024, .f32⟩
  | 12 => ⟨S1x1024, .f32⟩
  | 13 => ⟨S1024, .f32⟩
  | 14 => ⟨S16384x1024, .f32⟩
  | 15 => ⟨S256x1024, .f32⟩
  | 16 => ⟨S16640x1024, .f32⟩
  | 17 => ⟨S1x1024, .f32⟩
  | 18 => ⟨S16640x1024, .f32⟩
  | 19 => ⟨S16640x1024, .f32⟩
  | 20 => ⟨S16640x1024, .f32⟩
  | 21 => ⟨S1x1024, .f32⟩
  | 22 => ⟨S1024, .f32⟩
  | 23 => ⟨S16384x1024, .f32⟩
  | 24 => ⟨S256x1024, .f32⟩
  | 25 => ⟨S16640x1024, .f32⟩
  | 26 => ⟨S1x1024, .f32⟩
  | 27 => ⟨S16640x1024, .f32⟩
  | 28 => ⟨S16640x1024, .f32⟩
  | 29 => ⟨S16640x1024, .f32⟩
  | 30 => ⟨S1x1024, .f32⟩
  | 31 => ⟨S1024, .f32⟩
  | 32 => ⟨S16384x1024, .f32⟩
  | 33 => ⟨S256x1024, .f32⟩
  | 34 => ⟨S16640x1024, .f32⟩
  | 35 => ⟨S1x1024, .f32⟩
  | 36 => ⟨S16640x1024, .f32⟩
  | 37 => ⟨S16640x1024, .f32⟩
  | 38 => ⟨S16640x1024, .f32⟩
  | 39 => ⟨S1x1024, .f32⟩
  | 40 => ⟨S1024, .f32⟩
  | 41 => ⟨S16384x1024, .f32⟩
  | 42 => ⟨S256x1024, .f32⟩
  | 43 => ⟨S16640x1024, .f32⟩
  | 44 => ⟨S1x1024, .f32⟩
  | 45 => ⟨S16640x1024, .f32⟩
  | 46 => ⟨S16640x1024, .f32⟩
  | 47 => ⟨S16640x1024, .f32⟩
  | 48 => ⟨S1x1024, .f32⟩
  | 49 => ⟨S16640x1024, .f32⟩
  | 50 => ⟨S16640x1024, .f32⟩
  | 51 => ⟨S_, .f32⟩
  | 52 => ⟨S16640, .f32⟩
  | 53 => ⟨S16640x1, .f32⟩
  | 54 => ⟨S_, .f32⟩
  | 55 => ⟨S16640x1, .f32⟩
  | 56 => ⟨S16640x1, .f32⟩
  | 57 => ⟨S16640x1024, .f32⟩
  | 58 => ⟨S16640x1024, .f32⟩
  | 59 => ⟨S16640x1024, .f32⟩
  | 60 => ⟨S_, .f32⟩
  | 61 => ⟨S16640, .f32⟩
  | 62 => ⟨S16640x1, .f32⟩
  | 63 => ⟨S_, .f32⟩
  | 64 => ⟨S16640x1, .f32⟩
  | 65 => ⟨S16640x1, .f32⟩
  | 66 => ⟨S_, .f32⟩
  | 67 => ⟨S16640x1, .f32⟩
  | 68 => ⟨S16640x1, .f32⟩
  | 69 => ⟨S16640x1, .f32⟩
  | 70 => ⟨S16640x1024, .f32⟩
  | 71 => ⟨S16640x1024, .f32⟩
  | 72 => ⟨S1x1024, .f32⟩
  | 73 => ⟨S16640x1024, .f32⟩
  | 74 => ⟨S16640x1024, .f32⟩
  | 75 => ⟨S1x1024, .f32⟩
  | 76 => ⟨S16640x1024, .f32⟩
  | 77 => ⟨S16640x1024, .f32⟩
  | 78 => ⟨S16640x1024, .f32⟩
  | 79 => ⟨S16640x1024, .f32⟩
  | 80 => ⟨S_, .f32⟩
  | 81 => ⟨S16640x1024, .f32⟩
  | 82 => ⟨S16640x1024, .f32⟩
  | 83 => ⟨S_, .f32⟩
  | 84 => ⟨S16640x1024, .f32⟩
  | 85 => ⟨S16640x1024, .f32⟩
  | 86 => ⟨S16640x1024, .f32⟩
  | 87 => ⟨S16640x1024, .bf16⟩
  | 88 => ⟨S16640x1024, .f32⟩
  | 89 => ⟨S16640x1024, .f32⟩
  | 90 => ⟨S16640x1024, .f32⟩
  | 91 => ⟨S_, .f32⟩
  | 92 => ⟨S16640x1024, .f32⟩
  | 93 => ⟨S16640x1024, .f32⟩
  | 94 => ⟨S_, .f32⟩
  | 95 => ⟨S16640x1024, .f32⟩
  | 96 => ⟨S16640x1024, .f32⟩
  | 97 => ⟨S16640x1024, .f32⟩
  | 98 => ⟨S16640x1024, .f32⟩
  | 99 => ⟨S16640x1024, .bf16⟩
  | _ => ⟨S16640x7168, .bf16⟩

abbrev hbmTy (i : Nat) : BufTy := match i / 128 with
  | 0 => hbmTy0_0 i
  | 1 => hbmTy0_1 i
  | 2 => hbmTy0_2 i
  | _ => ⟨S16640x7168, .bf16⟩

abbrev bufTy : (tb : Table) → Fin (tcTables nBuf tb) → BufTy
  | .hbm, ⟨i, _⟩ => hbmTy i
  | _, _ => ⟨S16640x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_v285 : Ref sig .tc := ⟨.hbm, 296, rfl⟩
abbrev main_v286 : Ref sig .tc := ⟨.hbm, 297, rfl⟩
abbrev main_v287 : Ref sig .tc := ⟨.hbm, 298, rfl⟩
abbrev main_v288 : Ref sig .tc := ⟨.hbm, 299, rfl⟩
abbrev main_v289 : Ref sig .tc := ⟨.hbm, 300, rfl⟩
abbrev main_v290 : Ref sig .tc := ⟨.hbm, 301, rfl⟩
abbrev main_v291 : Ref sig .tc := ⟨.hbm, 302, rfl⟩
abbrev main_v292 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_cst_2 : Ref sig .tc := ⟨.hbm, 307, rfl⟩
abbrev main_v296 : Ref sig .tc := ⟨.hbm, 308, rfl⟩
abbrev main_v297 : Ref sig .tc := ⟨.hbm, 309, rfl⟩
abbrev main_cst_3 : Ref sig .tc := ⟨.hbm, 310, rfl⟩
abbrev main_v298 : Ref sig .tc := ⟨.hbm, 311, rfl⟩
abbrev main_v299 : Ref sig .tc := ⟨.hbm, 312, rfl⟩
abbrev main_v300 : Ref sig .tc := ⟨.hbm, 313, rfl⟩
abbrev main_v301 : Ref sig .tc := ⟨.hbm, 314, rfl⟩
abbrev main_v302 : Ref sig .tc := ⟨.hbm, 315, rfl⟩
abbrev main_cst_4 : Ref sig .tc := ⟨.hbm, 316, rfl⟩
abbrev main_v303 : Ref sig .tc := ⟨.hbm, 317, rfl⟩
abbrev main_v304 : Ref sig .tc := ⟨.hbm, 318, rfl⟩
abbrev main_cst_5 : Ref sig .tc := ⟨.hbm, 319, rfl⟩
abbrev main_v305 : Ref sig .tc := ⟨.hbm, 320, rfl⟩
abbrev main_v306 : Ref sig .tc := ⟨.hbm, 321, rfl⟩
abbrev main_cst_6 : Ref sig .tc := ⟨.hbm, 322, rfl⟩
abbrev main_v307 : Ref sig .tc := ⟨.hbm, 323, rfl⟩
abbrev main_v308 : Ref sig .tc := ⟨.hbm, 324, rfl⟩
abbrev main_v309 : Ref sig .tc := ⟨.hbm, 325, rfl⟩
abbrev main_v310 : Ref sig .tc := ⟨.hbm, 326, rfl⟩
abbrev main_v311 : Ref sig .tc := ⟨.hbm, 327, rfl⟩
abbrev main_v312 : Ref sig .tc := ⟨.hbm, 328, rfl⟩
abbrev main_v313 : Ref sig .tc := ⟨.hbm, 329, rfl⟩
abbrev main_v314 : Ref sig .tc := ⟨.hbm, 330, rfl⟩
abbrev main_v315 : Ref sig .tc := ⟨.hbm, 331, rfl⟩
abbrev main_v316 : Ref sig .tc := ⟨.hbm, 332, rfl⟩
abbrev main_v317 : Ref sig .tc := ⟨.hbm, 333, rfl⟩
abbrev main_call2_v0 : Ref sig .tc := ⟨.hbm, 334, rfl⟩
abbrev main_call2_v1 : Ref sig .tc := ⟨.hbm, 335, rfl⟩
abbrev main_call2_cst : Ref sig .tc := ⟨.hbm, 336, rfl⟩
abbrev main_call2_v2 : Ref sig .tc := ⟨.hbm, 337, rfl⟩
abbrev main_call2_v3 : Ref sig .tc := ⟨.hbm, 338, rfl⟩
abbrev main_call2_cst_0 : Ref sig .tc := ⟨.hbm, 339, rfl⟩
abbrev main_call2_v4 : Ref sig .tc := ⟨.hbm, 340, rfl⟩
abbrev main_call2_v5 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_call3_v0 : Ref sig .tc := ⟨.hbm, 345, rfl⟩
abbrev main_call3_v1 : Ref sig .tc := ⟨.hbm, 346, rfl⟩
abbrev main_call3_cst : Ref sig .tc := ⟨.hbm, 347, rfl⟩
abbrev main_call3_v2 : Ref sig .tc := ⟨.hbm, 348, rfl⟩
abbrev main_call3_v3 : Ref sig .tc := ⟨.hbm, 349, rfl⟩
abbrev main_call3_cst_0 : Ref sig .tc := ⟨.hbm, 350, rfl⟩
abbrev main_call3_v4 : Ref sig .tc := ⟨.hbm, 351, rfl⟩
abbrev main_call3_v5 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩

abbrev nD : Nat := 1
abbrev τ : Topo := Topo.v7x

variable {F : FTy → Type} [FloatOps F]
-- ==== Proof.Softmax.lean ====
module

public import Idealize.ShloMosaic.Lib.Pipeline.ValueKit
public import Mathlib.Analysis.SpecialFunctions.Exp

@[expose] public section

/-!
# Softmax averages over the extended reals

The attention kernel goes over the keys in chunks and carries a running maximum `m`, a running sum of weights `l` and a
running weighted sum of values `a`, all rescaled by `exp (m - m')` whenever the maximum moves. While scores and values
are real numbers the shift `m` cancels in `a / l`: whatever real number the maximum starts from, `a / l` is the softmax
average `soft`. The plain softmax shifts by the row's maximum and divides every weight first; its average is `soft` too.
-/

noncomputable section

namespace Cert.Softmax

open Idealize.ShloMosaic

/-- The extended real is a real number. -/
def IsR (x : EReal) : Prop := ∃ r : ℝ, x = (r : EReal)

theorem IsR.coe (r : ℝ) : IsR (r : EReal) := ⟨r, rfl⟩

theorem IsR.eq {x : EReal} (h : IsR x) : x = (x.toReal : EReal) := by
  obtain ⟨r, rfl⟩ := h; rfl

theorem IsR.max {x y : EReal} (hx : IsR x) (hy : IsR y) : IsR (max x y) := by
  rcases max_choice x y with h | h <;> rw [h] <;> assumption

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.exp {x : EReal} (hx : IsR x) : IsR (Ideal.exp x) := by
  obtain ⟨a, rfl⟩ := hx; exact ⟨Real.exp a, rfl⟩

/-- A finite sum of real numbers, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem IsR.sum {ι : Type*} (s : Finset ι) (f : ι → EReal) (h : ∀ i, IsR (f i)) : IsR (∑ i ∈ s, f i) := by
  rw [Finset.sum_congr rfl fun i _ => (h i).eq, coe_sum]; exact IsR.coe _

/-- The largest of finitely many, and at least one, real numbers, started from `-∞`, is a real number. -/
theorem isR_fold_max {ι : Type*} (s : Finset ι) (hs : s.Nonempty) (f : ι → EReal) (h : ∀ i, IsR (f i)) :
    IsR (s.fold max ⊥ f) := by
  classical
  induction hs using Finset.Nonempty.cons_induction with
  | singleton i => rw [Finset.fold_singleton, max_bot_right]; exact h i
  | cons i s hi _ ih => rw [Finset.fold_cons]; exact (h i).max ih

theorem ofBits_negInf : Ideal.ofBits .f32 4286578688#32 = ⊥ := by simp [Ideal.ofBits, Ideal.ieee]

/-- The kernel's starting maximum, -1e30, is a real number (which one does not matter). -/
theorem isR_start : IsR (Ideal.ofBits .f32 4048155338#32) := by
  simp only [Ideal.ofBits, Ideal.ieee]
  rw [if_neg (by decide)]
  exact ⟨_, rfl⟩

theorem isR_lam0 : IsR (Ideal.ofBits .f32 1052116297#32) := by
  simp only [Ideal.ofBits, Ideal.ieee]
  rw [if_neg (by decide)]
  exact ⟨_, rfl⟩

/-- The softmax average of the values `v` under the scores `s`. -/
def soft {ι : Type*} [Fintype ι] (s v : ι → ℝ) : ℝ := (∑ k, Real.exp (s k) * v k) / ∑ k, Real.exp (s k)

/-- What the carried triple means after the scores `s c` and values `v c` of the chunks `c < n`. -/
def Carries {K : ℕ} (s v : ℕ → Fin K → ℝ) (n : ℕ) (m l a : EReal) : Prop :=
  ∃ M : ℝ, m = (M : EReal)
    ∧ l = ((∑ c ∈ Finset.range n, ∑ k, Real.exp (s c k - M) : ℝ) : EReal)
    ∧ a = ((∑ c ∈ Finset.range n, ∑ k, Real.exp (s c k - M) * v c k : ℝ) : EReal)

theorem carries_zero {K : ℕ} (s v : ℕ → Fin K → ℝ) (m : EReal) (hm : IsR m) : Carries s v 0 m 0 0 := by
  obtain ⟨M, rfl⟩ := hm
  exact ⟨M, rfl, by simp, by simp⟩

/-- One chunk: the triple the kernel computes from the carried one means one chunk more. -/
theorem Carries.step {K : ℕ} (hK : 0 < K) {s v : ℕ → Fin K → ℝ} {n : ℕ} {m l a m' : EReal} (h : Carries s v n m l a)
    (hm' : m' = max m (Finset.univ.fold max (Ideal.ofBits .f32 4286578688#32) fun k => (s n k : EReal))) :
    Carries s v (n + 1) m'
      (Ideal.exp (m - m') * l + ∑ k, Ideal.exp ((s n k : EReal) - m'))
      (Ideal.exp (m - m') * a + ∑ k, Ideal.exp ((s n k : EReal) - m') * (v n k : EReal)) := by
  obtain ⟨M, rfl, rfl, rfl⟩ := h
  haveI : Nonempty (Fin K) := ⟨⟨0, hK⟩⟩
  have hr : IsR m' := by
    rw [hm', ofBits_negInf]
    exact (IsR.coe M).max (isR_fold_max _ Finset.univ_nonempty _ fun k => IsR.coe _)
  clear hm'
  obtain ⟨M', rfl⟩ := hr
  have e : ∀ x : ℝ, Real.exp (M - M') * Real.exp (x - M) = Real.exp (x - M') := fun x => by
    rw [← Real.exp_add]; congr 1; ring
  refine ⟨M', rfl, ?_, ?_⟩
  · simp only [← EReal.coe_sub, Ideal.exp_coe, coe_sum, ← EReal.coe_mul, ← EReal.coe_add]
    rw [Finset.sum_range_succ, Finset.mul_sum]
    simp only [Finset.mul_sum, e]
  · simp only [← EReal.coe_sub, Ideal.exp_coe, coe_sum, ← EReal.coe_mul, ← EReal.coe_add]
    rw [Finset.sum_range_succ, Finset.mul_sum]
    simp only [Finset.mul_sum, ← mul_assoc, e]

/-- A quotient of real numbers with a divisor other than zero. -/
theorem div_coe_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- Shifting every score by one number changes no softmax average. -/
theorem soft_shift {ι : Type*} [Fintype ι] (s v : ι → ℝ) (M : ℝ) :
    (∑ k, Real.exp (s k - M) * v k) / (∑ k, Real.exp (s k - M)) = soft s v := by
  have e : ∀ k, Real.exp (s k - M) = Real.exp (-M) * Real.exp (s k) := fun k => by
    rw [← Real.exp_add]; congr 1; ring
  simp only [soft, e, mul_assoc, ← Finset.mul_sum]
  exact mul_div_mul_left _ _ (Real.exp_ne_zero _)

theorem sum_exp_ne_zero {ι : Type*} [Fintype ι] [Nonempty ι] (s : ι → ℝ) : (∑ k, Real.exp (s k)) ≠ 0 :=
  (Finset.sum_pos (fun k _ => Real.exp_pos _) Finset.univ_nonempty).ne'

/-- After all `N` chunks the kernel's quotient is the softmax average over all keys. -/
theorem Carries.quotient {N K T : ℕ} (hT : N * K = T) (hpos : 0 < T) (s v : Fin T → ℝ) {s' v' : ℕ → Fin K → ℝ}
    (hs : ∀ (c : Fin N) (k : Fin K) (h : c.val * K + k.val < T), s' c k = s ⟨c.val * K + k.val, h⟩)
    (hv : ∀ (c : Fin N) (k : Fin K) (h : c.val * K + k.val < T), v' c k = v ⟨c.val * K + k.val, h⟩)
    {m l a : EReal} (h : Carries s' v' N m l a) : Ideal.div a l = (soft s v : EReal) := by
  obtain ⟨M, rfl, rfl, rfl⟩ := h
  haveI : Nonempty (Fin T) := ⟨⟨0, hpos⟩⟩
  subst hT
  have el : (∑ c ∈ Finset.range N, ∑ k, Real.exp (s' c k - M)) = ∑ k : Fin (N * K), Real.exp (s k - M) := by
    rw [Fin.sum_univ_tiles N K rfl, Finset.sum_range]
    exact Finset.sum_congr rfl fun c _ => Finset.sum_congr rfl fun k _ => by rw [hs c k]
  have ea : (∑ c ∈ Finset.range N, ∑ k, Real.exp (s' c k - M) * v' c k)
      = ∑ k : Fin (N * K), Real.exp (s k - M) * v k := by
    rw [Fin.sum_univ_tiles N K rfl, Finset.sum_range]
    exact Finset.sum_congr rfl fun c _ => Finset.sum_congr rfl fun k _ => by rw [hs c k, hv c k]
  rw [el, ea, div_coe_coe _ _ (sum_exp_ne_zero _), soft_shift]

/-- The plain softmax weights of two score rows, the second scaled by a real `c` and subtracted, average the values to
    the difference of the two softmax averages. -/
theorem soft_sub {ι : Type*} [Fintype ι] [Nonempty ι] (s₀ s₁ v : ι → ℝ) (M₀ M₁ c : ℝ) :
    (∑ k, (v k : EReal) * (Ideal.div (Ideal.exp ((s₀ k : EReal) - (M₀ : EReal)))
            (0 + ∑ j, Ideal.exp ((s₀ j : EReal) - (M₀ : EReal)))
          - (c : EReal) * Ideal.div (Ideal.exp ((s₁ k : EReal) - (M₁ : EReal)))
            (0 + ∑ j, Ideal.exp ((s₁ j : EReal) - (M₁ : EReal)))))
      = (soft s₀ v : EReal) - (c : EReal) * (soft s₁ v : EReal) := by
  have n₀ := sum_exp_ne_zero fun k => s₀ k - M₀
  have n₁ := sum_exp_ne_zero fun k => s₁ k - M₁
  simp only [zero_add, ← EReal.coe_sub, Ideal.exp_coe, coe_sum, ← EReal.coe_mul]
  simp only [div_coe_coe _ _ n₀, div_coe_coe _ _ n₁, ← EReal.coe_mul, ← EReal.coe_sub, coe_sum]
  rw [← soft_shift s₀ v M₀, ← soft_shift s₁ v M₁]
  congr 1
  rw [Finset.sum_div, Finset.sum_div, Finset.mul_sum, ← Finset.sum_sub_distrib]
  exact Finset.sum_congr rfl fun k _ => by ring

end Cert.Softmax

end
-- ==== Proof.Trip.lean ====
module

public import proofs.«01_k».proof.Proof.Gen.KernelIdeal.Value
public import proofs.«01_k».proof.Proof.Softmax
public import Idealize.ShloMosaic.Lib.Pipeline.ValueKit

@[expose] public section

/-!
# One grid point of the differential attention kernel, opened

On a latent tile the body goes over the keys in 13 chunks of 1280, carrying a triple; on the context tile it takes the
256 context keys at once.
-/

set_option maxRecDepth 16384

noncomputable section

namespace Cert.DiffAttn

open Cert.KernelIdeal Cert.KernelIdeal.Gen Idealize.ShloMosaic Idealize.ShloMosaic.TcCoe Idealize.SL.Sem
open Idealize.ShloMosaic.Pipeline (Dat)
open Cert.Softmax

/-- What the loop carries: the running maximum, the running sum of weights, the running weighted sum of values. -/
abbrev Carry := FVec Ideal S512x1 .f32 × FVec Ideal S512x1 .f32 × FVec Ideal S512x128 .f32

/-- Chunk `k` of an array of key or value rows. -/
def chunk (x : Vec Ideal S16640x128 .bf16) (k : Fin 13) : Vec Ideal S1280x128 .bf16 :=
  fun y => x (ix2 ⟨k.val * 1280 + (y 0).val, by have := (y 0).isLt; have : (S1280x128.size 0) = 1280 := rfl; omega⟩ (y 1))

/-- One trip over chunk `k`, as the three payloads it yields. -/
def stepOf (v1 : FVec Ideal S512x128 .bf16) (kb vb : Vec Ideal S1280x128 .bf16) (s : Carry) : Carry :=
  (k0_pay8 v1 s.1 kb, k0_pay11 v1 s.1 s.2.1 kb, k0_pay12 v1 s.1 s.2.2 kb vb)

theorem trips_eq : k0_t1_loop.trips = 13 := by decide

section
variable (𝒱 : Variants) (c : Dev nD) (bd : Option 𝒱.V) (i : grid0.Coords)
    (a2 : Memref sig .tc .vmem S2x256x128 .bf16) (h2 : a2.IsWhole)
    (a3 : Memref sig .tc .vmem S16640x128 .bf16) (h3 : a3.IsWhole)
    (a4 : Memref sig .tc .vmem S16640x128 .bf16) (h4 : a4.IsWhole)
    (a5 : Memref sig .tc .vmem S256x128 .bf16) (h5 : a5.IsWhole)
    (a6 : Memref sig .tc .vmem S8x128 .f32) (h6 : a6.IsWhole)
    (a7 : Memref sig .tc .vmem S1x128 .f32) (h7 : a7.IsWhole)
    (a8 : Memref sig .tc .vmem S256x128 .bf16) (h8 : a8.IsWhole)

/-- A chunk's load is the chunk. -/
theorem read_chunk (a : Memref sig .tc .vmem S16640x128 .bf16) (h : a.IsWhole) (x : Vec Ideal S16640x128 .bf16)
    (k : Fin k0_t1_loop.trips) (hb : ∀ a, k0_off1 k a + ![1280, 128] a ≤ S16640x128.size a) :
    View.readAt (Elt Ideal) a.view (Rect.unit (s := S16640x128) (k0_off1 k) ![1280, 128] hb).toLoadRect (h.unread x)
      = chunk x (k.cast trips_eq) := by
  rw [View.readAt_eq_ld, h.read_unread]
  funext y
  refine View.ld_unit_apply_of x _ _ hb y _ ?_
  have e0 : k0_off1 k 0 = 1280 * k.val := congrFun (k0_off1_eq k) 0
  have e1 : k0_off1 k 1 = 0 := congrFun (k0_off1_eq k) 1
  intro a
  match a with
  | ⟨0, _⟩ => show k.val * 1280 + (y 0).val = k0_off1 k 0 + (y 0).val; omega
  | ⟨1, _⟩ => show (y 1).val = k0_off1 k 1 + (y 1).val; omega

theorem trip_opened (v1 : FVec Ideal S512x128 .bf16) (v2 v3 : FVec Ideal S512x1 .f32) (v4 : FVec Ideal S512x128 .f32)
    (hc : k0_cond1 i = 1#1) (x3 x4 : Vec Ideal S16640x128 .bf16) (k : Fin k0_t1_loop.trips) (s : Carry) :
    tripR_k0_t1 (F := Ideal) 𝒱 c bd i a2 h2 a3 h3 a4 h4 a5 h5 a6 h6 a7 h7 a8 h8 v1 v2 v3 v4 hc
      (h3.unread x3) (h4.unread x4) k s = stepOf v1 (chunk x3 (k.cast trips_eq)) (chunk x4 (k.cast trips_eq)) s := by
  unfold tripR_k0_t1 trip_k0_t1
  dsimp only
  rw [read_chunk, read_chunk]
  rfl

theorem outA_opened (hc0 : cond0_0 i) (hc1 : ¬cond0_1 i)
    (x0 : Vec Ideal S2x256x128 .bf16) (x1 x2 : Vec Ideal S16640x128 .bf16) (x3 : Vec Ideal S256x128 .bf16)
    (x4 : Vec Ideal S8x128 .f32) (x5 : Vec Ideal S1x128 .f32) :
    ∃ S : ℕ → Carry, S 0 = (k0_pay2, k0_pay3, k0_pay4)
      ∧ (∀ n (hn : n < 13), S (n + 1) = stepOf (k0_pay1 x0) (chunk x1 ⟨n, hn⟩) (chunk x2 ⟨n, hn⟩) (S n))
      ∧ out0_A_6 (F := Ideal) c i a2 h2 a3 h3 a4 h4 a5 h5 a6 h6 a7 h7 a8 h8 hc0 hc1 x0 x1 x2 x3 x4 x5
        = k0_pay5 (k0_pay13 (S 13).2.1 (S 13).2.2 x4 x5) x3 := by
  refine ⟨st_k0_t1 (F := Ideal) Variants.none c none i a2 h2 a3 h3 a4 h4 a5 h5 a6 h6 a7 h7 a8 h8 (k0_pay1 x0) k0_pay2
    k0_pay3 k0_pay4 hc0 (h3.unread x1) (h4.unread x2) (k0_pay2, k0_pay3, k0_pay4), rfl, fun n hn => ?_, ?_⟩
  · have h := st_k0_t1_succ (F := Ideal) Variants.none c none i a2 h2 a3 h3 a4 h4 a5 h5 a6 h6 a7 h7 a8 h8 (k0_pay1 x0)
      k0_pay2 k0_pay3 k0_pay4 hc0 (h3.unread x1) (h4.unread x2) (k0_pay2, k0_pay3, k0_pay4) ⟨n, trips_eq ▸ hn⟩
    rw [trip_opened] at h
    exact h
  · frame_out
    rw [show Scf.trips (0#32) (Scalar.addi 0#32 13#32) 1#32 = 13 from trips_eq]

end

end Cert.DiffAttn

end
-- ==== Proof.Pay.lean ====
module

public import proofs.«01_k».proof.Proof.Gen.KernelIdeal.Value
public import proofs.«01_k».proof.Proof.Softmax
public import Idealize.ShloMosaic.Lib.Pipeline.ValueKit

@[expose] public section

/-!
# What one grid point of the differential attention kernel computes

A point holds 256 query rows of one head, both maps stacked into 512 rows. On a latent tile the body goes over the keys
in 13 chunks of 1280; on the context tile it takes the 256 context keys at once. Over real queries, keys and values both
end at the softmax averages of the two maps (`outA_at`, `outB_at`), combined with the learned weight, normalized and
gated (`post`).
-/

set_option maxRecDepth 16384

noncomputable section

namespace Cert.DiffAttn

open Cert.KernelIdeal Cert.KernelIdeal.Gen Idealize.ShloMosaic Idealize.ShloMosaic.TcCoe Idealize.SL.Sem
open Idealize.ShloMosaic.Pipeline (Dat)
open Cert.Softmax

/-- The weight of the second map, from the four rows of lambda parameters the kernel is passed. -/
def lamOf (lp : Vec Ideal S8x128 .f32) : EReal :=
  Ideal.exp (∑ x : Fin 128, lp (ix2 0 x) * lp (ix2 1 x)) - Ideal.exp (∑ x : Fin 128, lp (ix2 2 x) * lp (ix2 3 x))
    + Ideal.ofBits FTy.f32 1052116297#32

/-- Root-mean-square norm over a head's 128 columns, its gain, the factor `1 - λ₀`, and the gate `g · σ(g)`. -/
def post (o : Fin 128 → EReal) (gain gate : EReal) (e : Fin 128) : EReal :=
  o e * Ideal.rsqrt (Ideal.div (∑ x : Fin 128, o x * o x) (Ideal.ofBits FTy.f32 1124073472#32)
        + Ideal.ofBits FTy.f32 897988541#32)
      * gain * Ideal.ofBits FTy.f32 1059388764#32
    * (gate * Ideal.div 1 (1 + Ideal.exp (0 - gate)))

/-- A score: the product of a query row and a key row. -/
theorem pay7_at (v1 kb) (r : Fin 512) (k : Fin 1280) :
    k0_pay7 (F := Ideal) v1 kb (ix2 r k) = ∑ d : Fin 128, v1 (ix2 r d) * kb (ix2 k d) := by
  pointwise [k0_pay7]

theorem pay8_at (v1 m kb) (r : Fin 512) :
    k0_pay8 (F := Ideal) v1 m kb (ix2 r 0)
      = max (m (ix2 r 0)) (Finset.univ.fold max (Ideal.ofBits .f32 4286578688#32)
          fun k : Fin 1280 => k0_pay7 (F := Ideal) v1 kb (ix2 r k)) := by
  pointwise [k0_pay8]

theorem pay11_at (v1 m l kb) (r : Fin 512) :
    k0_pay11 (F := Ideal) v1 m l kb (ix2 r 0)
      = Ideal.exp (m (ix2 r 0) - k0_pay8 (F := Ideal) v1 m kb (ix2 r 0)) * l (ix2 r 0)
        + ∑ k : Fin 1280, Ideal.exp (k0_pay7 (F := Ideal) v1 kb (ix2 r k) - k0_pay8 (F := Ideal) v1 m kb (ix2 r 0)) := by
  pointwise [k0_pay11, k0_pay9, k0_pay10]

theorem pay12_at (v1 m a kb vb) (r : Fin 512) (e : Fin 128) :
    k0_pay12 (F := Ideal) v1 m a kb vb (ix2 r e)
      = Ideal.exp (m (ix2 r 0) - k0_pay8 (F := Ideal) v1 m kb (ix2 r 0)) * a (ix2 r e)
        + ∑ k : Fin 1280, Ideal.exp (k0_pay7 (F := Ideal) v1 kb (ix2 r k) - k0_pay8 (F := Ideal) v1 m kb (ix2 r 0))
            * vb (ix2 k e) := by
  pointwise [k0_pay12, k0_pay9, k0_pay10]

/-- The last part of the body, from the two maps' quotients. -/
theorem pay5_at (l a lp g x3) (r : Fin 256) (e : Fin 128) :
    k0_pay5 (F := Ideal) (k0_pay13 (F := Ideal) l a lp g) x3 (ix2 r e)
      = post (fun x => Ideal.div (a (ix2 ⟨r.val, by omega⟩ x)) (l (ix2 ⟨r.val, by omega⟩ 0))
            - lamOf lp * Ideal.div (a (ix2 ⟨256 + r.val, by omega⟩ x)) (l (ix2 ⟨256 + r.val, by omega⟩ 0)))
          (g (ix2 0 e)) (x3 (ix2 r e)) e := by
  pointwise [k0_pay5, k0_pay13, post, lamOf]

/-- The kernel's query rows: map 0 in rows 0 to 255, map 1 in rows 256 to 511. -/
theorem pay1_at (x0) (r : Fin 512) (d : Fin 128) :
    k0_pay1 (F := Ideal) x0 (ix2 r d) = x0 (ix3 ⟨r.val / 256, by omega⟩ ⟨r.val % 256, by omega⟩ d) := by
  pointwise [k0_pay1]

theorem pay6_at (v1 m l a kb vb lp g x3) (r : Fin 256) (e : Fin 128) :
    k0_pay6 (F := Ideal) (k0_pay14 v1 m l a kb vb lp) (k0_pay15 v1 m l a kb vb lp) g x3 (ix2 r e)
      = post (fun x => k0_pay14 (F := Ideal) v1 m l a kb vb lp (ix2 r x)) (g (ix2 0 e)) (x3 (ix2 r e)) e := by
  pointwise [k0_pay6, k0_pay15, post]

/-- The quotient the context tile takes after its one step. -/
def ctxQuot (v1 : FVec Ideal S512x128 .bf16) (kb vb : Vec Ideal S256x128 .bf16) (r : Fin 512) (e : Fin 128) : EReal :=
  let s : Fin 256 → EReal := fun k => ∑ d : Fin 128, v1 (ix2 r d) * kb (ix2 k d)
  let m' := max (Ideal.ofBits .f32 4048155338#32) (Finset.univ.fold max (Ideal.ofBits .f32 4286578688#32) s)
  Ideal.div
    (Ideal.exp (Ideal.ofBits .f32 4048155338#32 - m') * 0 + ∑ k : Fin 256, Ideal.exp (s k - m') * vb (ix2 k e))
    (Ideal.exp (Ideal.ofBits .f32 4048155338#32 - m') * 0 + ∑ k : Fin 256, Ideal.exp (s k - m'))

theorem pay14_at (v1 kb vb lp) (r : Fin 256) (e : Fin 128) :
    k0_pay14 (F := Ideal) v1 k0_pay2 k0_pay3 k0_pay4 kb vb lp (ix2 r e)
      = ctxQuot v1 kb vb ⟨r.val, by omega⟩ e - lamOf lp * ctxQuot v1 kb vb ⟨256 + r.val, by omega⟩ e := by
  pointwise [k0_pay14, k0_pay2, k0_pay3, k0_pay4, ctxQuot, lamOf]

end Cert.DiffAttn

end
-- ==== Proof.Formula.lean ====
module

public import proofs.«01_k».proof.Proof.Pay

@[expose] public section

/-!
# The value of the gated differential attention, from its argument arrays

`attn` is the array both programs compute: for every row and head the softmax average of the values under the first map
minus `λ` times the one under the second, normalized per head, scaled and gated. A latent row attends all 16640 keys, a
context row the 256 context keys.
-/

set_option maxRecDepth 16384

noncomputable section

namespace Cert.DiffAttn

open Cert.KernelIdeal Idealize.ShloMosaic Idealize.ShloMosaic.TcCoe Idealize.SL.Sem
open Cert.Softmax

/-- Key `k` of the context, among all keys. -/
def ctxKey (k : Fin 256) : Fin 16640 := ⟨16384 + k.val, by omega⟩

/-- Column `d` of head `h`, among the 1024 columns; with the offsets of the values and of the gate in the projected array. -/
def col (h : Fin 8) (d : Fin 128) : Fin 1024 := ⟨h.val * 128 + d.val, by omega⟩
def vcol (h : Fin 8) (d : Fin 128) : Fin 6144 := ⟨4096 + h.val * 128 + d.val, by omega⟩
def gcol (h : Fin 8) (d : Fin 128) : Fin 6144 := ⟨5120 + h.val * 128 + d.val, by omega⟩

section
variable (X0 : Vec Ideal S2x16640x1024 .bf16) (X1 : Vec Ideal S16640x1024 .bf16) (X2 : Vec Ideal S16640x6144 .bf16)

/-- The score of query row `n` of map `p` against key `k`, in head `h`. -/
def score (h : Fin 8) (p : Fin 2) (n k : Fin 16640) : ℝ :=
  ∑ d : Fin 128, (X0 (ix3 p n (col h d))).toReal * (X1 (ix2 k (col h d))).toReal

/-- The softmax average of column `e` of head `h`'s values under map `p`, for row `n`. -/
def avg (h : Fin 8) (p : Fin 2) (n : Fin 16640) (e : Fin 128) : ℝ :=
  if n.val < 16384 then soft (fun k => score X0 X1 h p n k) (fun k => (X2 (ix2 k (vcol h e))).toReal)
  else soft (fun k => score X0 X1 h p n (ctxKey k)) (fun k => (X2 (ix2 (ctxKey k) (vcol h e))).toReal)

variable (L1 L2 L3 L4 : Vec Ideal S64 .f32) (X7 : Vec Ideal S128 .f32)

/-- The weight of the second map. -/
def lam : EReal :=
  Ideal.exp (∑ x : Fin 64, L1 (ix1 x) * L2 (ix1 x)) - Ideal.exp (∑ x : Fin 64, L3 (ix1 x) * L4 (ix1 x))
    + Ideal.ofBits FTy.f32 1052116297#32

/-- The result at row `n`, head `h`, column `e` of the head. -/
def attnAt (n : Fin 16640) (h : Fin 8) (e : Fin 128) : EReal :=
  post (fun x => ((avg X0 X1 X2 h 0 n x : ℝ) : EReal) - lam L1 L2 L3 L4 * ((avg X0 X1 X2 h 1 n x : ℝ) : EReal))
    (X7 (ix1 e)) (X2 (ix2 n (gcol h e))) e

/-- The result array. -/
def attn : Vec Ideal S16640x1024 .bf16 := fun j =>
  attnAt X0 X1 X2 L1 L2 L3 L4 X7 (j 0) ⟨(j 1).val / 128, by have : (j 1).val < 1024 := (j 1).isLt; omega⟩
    ⟨(j 1).val % 128, by omega⟩

end

end Cert.DiffAttn

end
-- ==== Proof.Rows.lean ====
module

public import proofs.«01_k».proof.Proof.Trip
public import proofs.«01_k».proof.Proof.Formula

@[expose] public section

/-!
# What one grid point of the differential attention kernel leaves, over real blocks

With the blocks of queries, keys and values real numbers, the loop's triple keeps its meaning (`Carries`) through the 13
chunks, so a latent tile's rows end at the softmax averages over all 16640 keys (`outA_at`); the context tile's one step
ends at the softmax averages over the 256 context keys (`outB_at`).
-/

set_option maxRecDepth 16384

noncomputable section

namespace Cert.DiffAttn

open Cert.KernelIdeal Cert.KernelIdeal.Gen Idealize.ShloMosaic Idealize.ShloMosaic.TcCoe Idealize.SL.Sem
open Idealize.ShloMosaic.Pipeline (Dat)
open Cert.Softmax

/-- The score of query row `r` of map `p` against key `k`, over real blocks. -/
def bscore (q : Fin 2 → Fin 256 → Fin 128 → ℝ) (kk : Fin 16640 → Fin 128 → ℝ) (p : Fin 2) (r : Fin 256) (k : Fin 16640) : ℝ :=
  ∑ d : Fin 128, q p r d * kk k d

/-- Of the 512 stacked rows of a tile, the map row `r` belongs to and its row there. -/
def mapOf (r : Fin 512) : Fin 2 := ⟨r.val / 256, by omega⟩
def rowOf (r : Fin 512) : Fin 256 := ⟨r.val % 256, by omega⟩

section loop
variable (x0 : Vec Ideal S2x256x128 .bf16) (x1 x2 : Vec Ideal S16640x128 .bf16)
  (q : Fin 2 → Fin 256 → Fin 128 → ℝ) (kk vv : Fin 16640 → Fin 128 → ℝ)
  (hq : ∀ p r d, x0 (ix3 p r d) = (q p r d : EReal)) (hk : ∀ k d, x1 (ix2 k d) = (kk k d : EReal))
  (hv : ∀ k d, x2 (ix2 k d) = (vv k d : EReal))

include hq in
theorem row_real (r : Fin 512) (d : Fin 128) :
    k0_pay1 (F := Ideal) x0 (ix2 r d) = (q (mapOf r) (rowOf r) d : EReal) := by
  rw [pay1_at, hq]
  rfl

/-- Row `r` of the carried triple, after any number of trips, means the softmax sums over the chunks gone through. -/
theorem carries_loop (S : ℕ → Carry) (h0 : S 0 = (k0_pay2, k0_pay3, k0_pay4))
    (hS : ∀ n (hn : n < 13), S (n + 1) = stepOf (k0_pay1 x0) (chunk x1 ⟨n, hn⟩) (chunk x2 ⟨n, hn⟩) (S n))
    (hq : ∀ p r d, x0 (ix3 p r d) = (q p r d : EReal)) (hk : ∀ k d, x1 (ix2 k d) = (kk k d : EReal))
    (hv : ∀ k d, x2 (ix2 k d) = (vv k d : EReal))
    (r : Fin 512) (e : Fin 128) (n : ℕ) (hn : n ≤ 13) :
    Carries (fun c (k : Fin 1280) => if h : c * 1280 + k.val < 16640 then
          bscore q kk (mapOf r) (rowOf r) ⟨c * 1280 + k.val, h⟩ else 0)
      (fun c (k : Fin 1280) => if h : c * 1280 + k.val < 16640 then vv ⟨c * 1280 + k.val, h⟩ e else 0)
      n ((S n).1 (ix2 r 0)) ((S n).2.1 (ix2 r 0)) ((S n).2.2 (ix2 r e)) := by
  induction n with
  | zero =>
    rw [h0]
    have z1 : k0_pay3 (F := Ideal) (ix2 r 0) = 0 := by pointwise [k0_pay3]
    have z2 : k0_pay4 (F := Ideal) (ix2 r e) = 0 := by pointwise [k0_pay4]
    have z0 : k0_pay2 (F := Ideal) (ix2 r 0) = Ideal.ofBits .f32 4048155338#32 := by pointwise [k0_pay2]
    show Carries _ _ 0 (k0_pay2 (F := Ideal) (ix2 r 0)) (k0_pay3 (F := Ideal) (ix2 r 0)) (k0_pay4 (F := Ideal) (ix2 r e))
    rw [z0, z1, z2]
    exact carries_zero _ _ _ isR_start
  | succ n ih =>
    have hn' : n < 13 := by omega
    have hlt : ∀ k : Fin 1280, n * 1280 + k.val < 16640 := fun k => by omega
    have sc : ∀ k : Fin 1280, k0_pay7 (F := Ideal) (k0_pay1 x0) (chunk x1 ⟨n, hn'⟩) (ix2 r k)
        = ((bscore q kk (mapOf r) (rowOf r) ⟨n * 1280 + k.val, hlt k⟩ : ℝ) : EReal) := by
      intro k
      rw [pay7_at, bscore, ← coe_sum]
      refine Finset.sum_congr rfl fun d _ => ?_
      rw [row_real x0 q hq, EReal.coe_mul]
      congr 1
      exact hk _ _
    have vl : ∀ k : Fin 1280, chunk x2 ⟨n, hn'⟩ (ix2 k e) = ((vv ⟨n * 1280 + k.val, hlt k⟩ e : ℝ) : EReal) := fun k => hv _ _
    have st := (ih (by omega)).step (by decide : 0 < 1280) rfl
    rw [hS n hn']
    show Carries _ _ (n + 1) (k0_pay8 (F := Ideal) _ _ _ (ix2 r 0)) (k0_pay11 (F := Ideal) _ _ _ _ (ix2 r 0))
      (k0_pay12 (F := Ideal) _ _ _ _ _ (ix2 r e))
    rw [pay11_at, pay12_at, pay8_at]
    simp only [dif_pos (hlt _)] at st
    simp only [sc, vl]
    exact st

end loop

theorem quotA (x0 : Vec Ideal S2x256x128 .bf16) (x1 x2 : Vec Ideal S16640x128 .bf16)
    (q : Fin 2 → Fin 256 → Fin 128 → ℝ) (kk vv : Fin 16640 → Fin 128 → ℝ)
    (S : ℕ → Carry) (h0 : S 0 = (k0_pay2, k0_pay3, k0_pay4))
    (hS : ∀ n (hn : n < 13), S (n + 1) = stepOf (k0_pay1 x0) (chunk x1 ⟨n, hn⟩) (chunk x2 ⟨n, hn⟩) (S n))
    (hq : ∀ p r d, x0 (ix3 p r d) = (q p r d : EReal)) (hk : ∀ k d, x1 (ix2 k d) = (kk k d : EReal))
    (hv : ∀ k d, x2 (ix2 k d) = (vv k d : EReal)) (p : Fin 2) (r : Fin 256) (e : Fin 128) (r' : Fin 512)
    (hr : r'.val = 256 * p.val + r.val) :
    Ideal.div ((S 13).2.2 (ix2 r' e)) ((S 13).2.1 (ix2 r' 0))
      = ((soft (bscore q kk p r) (fun k => vv k e) : ℝ) : EReal) := by
  have h := carries_loop x0 x1 x2 q kk vv S h0 hS hq hk hv r' e 13 le_rfl
  have ep : mapOf r' = p := Fin.ext (by show r'.val / 256 = p.val; omega)
  have er : rowOf r' = r := Fin.ext (by show r'.val % 256 = r.val; omega)
  rw [ep, er] at h
  exact h.quotient (T := 16640) rfl (by decide) (bscore q kk p r) (fun k => vv k e)
    (fun c k h => dif_pos h) (fun c k h => dif_pos h)

/-- The context tile's quotient over real blocks. -/
theorem quotB (x0 : Vec Ideal S2x256x128 .bf16) (kb vb : Vec Ideal S256x128 .bf16)
    (q : Fin 2 → Fin 256 → Fin 128 → ℝ) (kk vv : Fin 16640 → Fin 128 → ℝ)
    (hq : ∀ p r d, x0 (ix3 p r d) = (q p r d : EReal)) (hk : ∀ k d, kb (ix2 k d) = (kk (ctxKey k) d : EReal))
    (hv : ∀ k d, vb (ix2 k d) = (vv (ctxKey k) d : EReal)) (p : Fin 2) (r : Fin 256) (e : Fin 128) (r' : Fin 512)
    (hr : r'.val = 256 * p.val + r.val) :
    ctxQuot (k0_pay1 x0) kb vb r' e
      = ((soft (fun k => bscore q kk p r (ctxKey k)) (fun k => vv (ctxKey k) e) : ℝ) : EReal) := by
  have ep : mapOf r' = p := Fin.ext (by show r'.val / 256 = p.val; omega)
  have er : rowOf r' = r := Fin.ext (by show r'.val % 256 = r.val; omega)
  have sc : ∀ k : Fin 256, (∑ d : Fin 128, k0_pay1 (F := Ideal) x0 (ix2 r' d) * kb (ix2 k d))
      = ((bscore q kk p r (ctxKey k) : ℝ) : EReal) := by
    intro k
    rw [bscore, ← coe_sum]
    refine Finset.sum_congr rfl fun d _ => ?_
    rw [row_real x0 q hq, EReal.coe_mul, ep, er, hk]
  have h := (carries_zero (fun (_ : ℕ) (k : Fin 256) => bscore q kk p r (ctxKey k)) (fun _ k => vv (ctxKey k) e) _
    isR_start).step (by decide : 0 < 256) rfl
  have h' := h.quotient (N := 1) (T := 256) rfl (by decide) (fun k => bscore q kk p r (ctxKey k)) (fun k => vv (ctxKey k) e)
    (fun c k h => by congr 2; apply Fin.ext; show k.val = c.val * 256 + k.val; omega)
    (fun c k h => by congr 2; apply Fin.ext; show k.val = c.val * 256 + k.val; omega)
  rw [← h']
  unfold ctxQuot
  simp only [sc, hv]

theorem ctxOut (x0 : Vec Ideal S2x256x128 .bf16) (kb vb : Vec Ideal S256x128 .bf16) (x3 : Vec Ideal S256x128 .bf16)
    (x4 : Vec Ideal S8x128 .f32) (x5 : Vec Ideal S1x128 .f32)
    (q : Fin 2 → Fin 256 → Fin 128 → ℝ) (kk vv : Fin 16640 → Fin 128 → ℝ)
    (hq : ∀ p r d, x0 (ix3 p r d) = (q p r d : EReal)) (hk : ∀ k d, kb (ix2 k d) = (kk (ctxKey k) d : EReal))
    (hv : ∀ k d, vb (ix2 k d) = (vv (ctxKey k) d : EReal)) (r : Fin 256) (e : Fin 128) :
    k0_pay6 (F := Ideal) (k0_pay14 (k0_pay1 x0) k0_pay2 k0_pay3 k0_pay4 kb vb x4)
        (k0_pay15 (k0_pay1 x0) k0_pay2 k0_pay3 k0_pay4 kb vb x4) x5 x3 (ix2 r e)
      = post (fun x => ((soft (fun k => bscore q kk 0 r (ctxKey k)) (fun k => vv (ctxKey k) x) : ℝ) : EReal)
            - lamOf x4 * ((soft (fun k => bscore q kk 1 r (ctxKey k)) (fun k => vv (ctxKey k) x) : ℝ) : EReal))
          (x5 (ix2 0 e)) (x3 (ix2 r e)) e := by
  have e1 := fun x => quotB x0 kb vb q kk vv hq hk hv 0 r x
    ⟨r.val, by omega⟩ (by show r.val = 256 * 0 + r.val; omega)
  have e2 := fun x => quotB x0 kb vb q kk vv hq hk hv 1 r x
    ⟨256 + r.val, by omega⟩ (by show 256 + r.val = 256 * 1 + r.val; omega)
  refine (pay6_at _ _ _ _ kb vb x4 x5 x3 r e).trans ?_
  show post _ _ _ _ = post _ _ _ _
  refine congrArg (fun o => post o _ _ _) ?_
  funext x
  refine (pay14_at _ kb vb x4 r x).trans ?_
  rw [e1, e2]

section points
variable (c : Dev nD) (i : grid0.Coords)
    (a2 : Memref sig .tc .vmem S2x256x128 .bf16) (h2 : a2.IsWhole)
    (a3 : Memref sig .tc .vmem S16640x128 .bf16) (h3 : a3.IsWhole)
    (a4 : Memref sig .tc .vmem S16640x128 .bf16) (h4 : a4.IsWhole)
    (a5 : Memref sig .tc .vmem S256x128 .bf16) (h5 : a5.IsWhole)
    (a6 : Memref sig .tc .vmem S8x128 .f32) (h6 : a6.IsWhole)
    (a7 : Memref sig .tc .vmem S1x128 .f32) (h7 : a7.IsWhole)
    (a8 : Memref sig .tc .vmem S256x128 .bf16) (h8 : a8.IsWhole)
    (x0 : Vec Ideal S2x256x128 .bf16) (x1 x2 : Vec Ideal S16640x128 .bf16) (x3 : Vec Ideal S256x128 .bf16)
    (x4 : Vec Ideal S8x128 .f32) (x5 : Vec Ideal S1x128 .f32)
    (q : Fin 2 → Fin 256 → Fin 128 → ℝ) (kk vv : Fin 16640 → Fin 128 → ℝ)
    (hq : ∀ p r d, x0 (ix3 p r d) = (q p r d : EReal)) (hk : ∀ k d, x1 (ix2 k d) = (kk k d : EReal))
    (hv : ∀ k d, x2 (ix2 k d) = (vv k d : EReal))

include hq hk hv

/-- A latent tile's rows. -/
theorem outA_at (hc0 : cond0_0 i) (hc1 : ¬cond0_1 i) (r : Fin 256) (e : Fin 128) :
    out0_A_6 (F := Ideal) c i a2 h2 a3 h3 a4 h4 a5 h5 a6 h6 a7 h7 a8 h8 hc0 hc1 x0 x1 x2 x3 x4 x5 (ix2 r e)
      = post (fun x => ((soft (bscore q kk 0 r) (fun k => vv k x) : ℝ) : EReal)
            - lamOf x4 * ((soft (bscore q kk 1 r) (fun k => vv k x) : ℝ) : EReal))
          (x5 (ix2 0 e)) (x3 (ix2 r e)) e := by
  obtain ⟨S, h0, hS, hout⟩ := outA_opened c i a2 h2 a3 h3 a4 h4 a5 h5 a6 h6 a7 h7 a8 h8 hc0 hc1 x0 x1 x2 x3 x4 x5
  rw [hout, pay5_at]
  congr 1
  funext x
  rw [quotA x0 x1 x2 q kk vv S h0 hS hq hk hv 0 r x ⟨r.val, by omega⟩ (by show r.val = 256 * 0 + r.val; omega),
    quotA x0 x1 x2 q kk vv S h0 hS hq hk hv 1 r x ⟨256 + r.val, by omega⟩ (by show 256 + r.val = 256 * 1 + r.val; omega)]

/-- The context tile's rows. -/
theorem outB_at (hc0 : ¬cond0_0 i) (hc1 : cond0_1 i) (r : Fin 256) (e : Fin 128) :
    out0_B_6 (F := Ideal) c i a2 h2 a3 h3 a4 h4 a5 h5 a6 h6 a7 h7 a8 h8 hc0 hc1 x0 x1 x2 x3 x4 x5 (ix2 r e)
      = post (fun x => ((soft (fun k => bscore q kk 0 r (ctxKey k)) (fun k => vv (ctxKey k) x) : ℝ) : EReal)
            - lamOf x4 * ((soft (fun k => bscore q kk 1 r (ctxKey k)) (fun k => vv (ctxKey k) x) : ℝ) : EReal))
          (x5 (ix2 0 e)) (x3 (ix2 r e)) e := by
  have hl : ∀ (X : Vec Ideal S16640x128 .bf16) (k : Fin 256) (d : Fin 128),
      View.ld X (Rect.unit (s := S16640x128) ![16384, 0] ![256, 128] inb_S16640x128_S256x128_16384_0) (ix2 k d) = X (ix2 (ctxKey k) d) := by
    intro X k d
    refine View.ld_unit_apply_of X _ _ _ _ _ fun a => ?_
    match a with
    | ⟨0, _⟩ => rfl
    | ⟨1, _⟩ => show d.val = 0 + d.val; omega
  frame_out
  exact ctxOut x0 _ _ x3 x4 x5 q kk vv hq (fun k d => (hl x1 k d).trans (hk _ _)) (fun k d => (hl x2 k d).trans (hv _ _)) r e

end points

end Cert.DiffAttn

end
-- ==== Proof.Corner.lean ====
module

public import Idealize.ShloMosaic.Lib.Pipeline.ValueKit
public import Idealize.ShloMosaic.Lib.Routing.OpsOne

@[expose] public section

/-!
# A block written into a table's top left corner
-/

set_option maxRecDepth 16384

noncomputable section

namespace Cert.DiffAttn

section corner

open Idealize.ShloMosaic hiding ix0 ix1 ix2
open Idealize.ShloMosaic.Routing Idealize.ShloMosaic.ValueIdx

/-- Writing a block at the top left corner of a table: inside the block its entry, outside the table's own. -/
theorem scatter_corner {α : Type} {R C A B : ℕ} (d : ScatterDims (shape2 R C) (shape1 2) (shape2 A B))
    (hiw : d.insertedWindowDims = []) (huw : d.updateWindowDims = [0, 1]) (hsd : d.scatterDimsToOperandDims = [0, 1])
    (hivd : d.indexVectorDim = 0) (x0 : (shape2 R C).Idx → α) (idx : IVec (shape1 2) 32)
    (h0 : (idx (ix1 (0 : Fin 2))).toInt = 0) (h1 : (idx (ix1 (1 : Fin 2))).toInt = 0) (upd : (shape2 A B).Idx → α)
    (r : Fin R) (c : Fin C) :
    Host.scatter d (fun _ b => b) x0 idx upd (ix2 r c)
      = if h : r.val < A ∧ c.val < B then upd (ix2 ⟨r.val, h.1⟩ ⟨c.val, h.2⟩) else x0 (ix2 r c) := by
  have hk : d.sKept = [0, 1] := by
    show (shape2 R C).kept d.insertedWindowDims = _
    rw [hiw]
    rfl
  have pick : ∀ (l : List (Fin 2)) (_ : l = [0, 1]) (k : List (Fin 2)) (_ : k = [0, 1]) (q : Fin 2) (hb : k.idxOf q < l.length),
      l[k.idxOf q] = q := by
    rintro _ rfl _ rfl q hb
    fin_cases q <;> rfl
  have lands : ∀ (a : Fin A) (b : Fin B), d.resultIdx? (ix2 a b) idx = some (ix2 r c) ↔ a.val = r.val ∧ b.val = c.val := by
    intro a b
    have w : ∀ q : Fin 2, d.window (ix2 a b) q = ((ix2 a b : (shape2 A B).Idx) q).val := by
      intro q
      unfold ScatterDims.window
      rw [dif_pos (by rw [hk]; fin_cases q <;> simp)]
      exact congrArg (fun t : Fin 2 => ((ix2 a b : (shape2 A B).Idx) t).val) (pick _ huw _ hk q _)
    have w0 : d.window (ix2 a b) 0 = a.val := w 0
    have w1 : d.window (ix2 a b) 1 = b.val := w 1
    rw [resultIdx?_ix2, start_pair d hsd hivd, start_pair d hsd hivd, w0, w1, h0, h1]
    omega
  by_cases h : r.val < A ∧ c.val < B
  · rw [dif_pos h]
    refine scatter_set_hit d x0 idx upd _ _ (fun k hk' => ?_) (ix2 ⟨r.val, h.1⟩ ⟨c.val, h.2⟩) ((lands _ _).2 ⟨rfl, rfl⟩)
    obtain ⟨a, b, rfl⟩ : ∃ (a : Fin A) (b : Fin B), k = ix2 a b := ⟨k 0, k 1, ValueIdx.eq_ix2 k⟩
    obtain ⟨e0, e1⟩ := (lands a b).1 hk'
    exact congrArg₂ (fun x y => upd (ix2 x y)) (Fin.ext e0) (Fin.ext e1)
  · rw [dif_neg h]
    refine scatter_set_miss d x0 idx upd _ fun k hk' => h ?_
    obtain ⟨a, b, rfl⟩ : ∃ (a : Fin A) (b : Fin B), k = ix2 a b := ⟨k 0, k 1, ValueIdx.eq_ix2 k⟩
    obtain ⟨e0, e1⟩ := (lands a b).1 hk'
    exact ⟨e0 ▸ a.isLt, e1 ▸ b.isLt⟩

end corner

end Cert.DiffAttn

end
-- ==== Proof.Host.lean ====
module

public import proofs.«01_k».proof.Proof.Formula
public import proofs.«01_k».proof.Proof.Corner

@[expose] public section

/-!
# The two operands the program builds before the kernel

The four lambda vectors are stacked into the top left 4 by 64 corner of an 8 by 128 block of zeros; the norm's gain is
reshaped to one row.
-/

set_option maxRecDepth 16384

noncomputable section

namespace Cert.DiffAttn

open Cert.KernelIdeal Cert.KernelIdeal.Gen Idealize.ShloMosaic Idealize.ShloMosaic.TcCoe Idealize.SL.Sem

variable (m : (ℓ : Loc nD τ sig) → Buf (Elt Ideal) ℓ)

set_option maxHeartbeats 1000000 in
theorem lp_entry (c : Dev nD) :
    (show Vec Ideal S8x128 .f32 from V m c main_v9)
      = Host.scatter scatter_S8x128_S2_S4x64_01_n_01_0 (fun _ b => b) (broadcastInDim S8x128 ![] bcast_S_S8x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (concatenate S4x64 0 [⟨S1x64, broadcastInDim S1x64 ![1] bcast_S64_S1x64_1 (show Vec Ideal S64 .f32 from m ((c : Thread nD τ).loc main_arg3))⟩,
            ⟨S1x64, broadcastInDim S1x64 ![1] bcast_S64_S1x64_1 (show Vec Ideal S64 .f32 from m ((c : Thread nD τ).loc main_arg4))⟩,
            ⟨S1x64, broadcastInDim S1x64 ![1] bcast_S64_S1x64_1 (show Vec Ideal S64 .f32 from m ((c : Thread nD τ).loc main_arg5))⟩,
            ⟨S1x64, broadcastInDim S1x64 ![1] bcast_S64_S1x64_1 (show Vec Ideal S64 .f32 from m ((c : Thread nD τ).loc main_arg6))⟩] concatenates_S1x64_S1x64_S1x64_S1x64_S4x64_d0) := by
  rfl

theorem gain_entry (c : Dev nD) :
    (show Vec Ideal S1x128 .f32 from V m c main_v10)
      = shapeCast S1x128 (show Vec Ideal S128 .f32 from m ((c : Thread nD τ).loc main_arg7)) shapeCasts_S128_S1x128 := by
  entry_read
  rfl

end Cert.DiffAttn

end
-- ==== Proof.HostLam.lean ====
module

public import proofs.«01_k».proof.Proof.Formula
public import proofs.«01_k».proof.Proof.Corner

@[expose] public section

/-!
# The weight of the second map, from the padded block of lambda vectors

The block is zeros with the four vectors in its top left corner, so its sums over 128 columns are the vectors' over 64.
-/

set_option maxRecDepth 16384

noncomputable section

namespace Cert.DiffAttn

open Cert.KernelIdeal Cert.KernelIdeal.Gen Idealize.ShloMosaic Idealize.ShloMosaic.TcCoe Idealize.SL.Sem

/-- The four vectors, one per row. -/
def rows4 (L1 L2 L3 L4 : FVec Ideal S64 .f32) : FVec Ideal S4x64 .f32 :=
  concatenate S4x64 0 [⟨S1x64, broadcastInDim S1x64 ![1] bcast_S64_S1x64_1 L1⟩, ⟨S1x64, broadcastInDim S1x64 ![1] bcast_S64_S1x64_1 L2⟩,
    ⟨S1x64, broadcastInDim S1x64 ![1] bcast_S64_S1x64_1 L3⟩, ⟨S1x64, broadcastInDim S1x64 ![1] bcast_S64_S1x64_1 L4⟩]
    concatenates_S1x64_S1x64_S1x64_S1x64_S4x64_d0

/-- The position they are written at. -/
def origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The padded block. -/
def lpOf (L1 L2 L3 L4 : FVec Ideal S64 .f32) : FVec Ideal S8x128 .f32 :=
  Host.scatter scatter_S8x128_S2_S4x64_01_n_01_0 (fun _ b => b) (broadcastInDim S8x128 ![] bcast_S_S8x128 (constant (F := Ideal) S_ .f32 0x00000000#32))
    origin (rows4 L1 L2 L3 L4)

theorem rows4_0 (L1 L2 L3 L4) (x : Fin 64) : rows4 L1 L2 L3 L4 (ix2 0 x) = L1 (ix1 x) := by pointwise [rows4]
theorem rows4_1 (L1 L2 L3 L4) (x : Fin 64) : rows4 L1 L2 L3 L4 (ix2 1 x) = L2 (ix1 x) := by pointwise [rows4]
theorem rows4_2 (L1 L2 L3 L4) (x : Fin 64) : rows4 L1 L2 L3 L4 (ix2 2 x) = L3 (ix1 x) := by pointwise [rows4]
theorem rows4_3 (L1 L2 L3 L4) (x : Fin 64) : rows4 L1 L2 L3 L4 (ix2 3 x) = L4 (ix1 x) := by pointwise [rows4]

theorem zeros_at (r : Fin 8) (x : Fin 128) :
    (broadcastInDim S8x128 ![] bcast_S_S8x128 (constant (F := Ideal) S_ .f32 0x00000000#32)) (ix2 r x) = (0 : EReal) := by
  pointwise

theorem origin_zero (q : Fin 2) : (origin (ix1 q)).toInt = 0 := by
  fin_cases q <;> decide

theorem lpOf_at (L1 L2 L3 L4) (r : Fin 8) (x : Fin 128) :
    lpOf L1 L2 L3 L4 (ix2 r x) = if h : r.val < 4 ∧ x.val < 64 then rows4 L1 L2 L3 L4 (ix2 ⟨r.val, h.1⟩ ⟨x.val, h.2⟩) else 0 := by
  refine (scatter_corner scatter_S8x128_S2_S4x64_01_n_01_0 rfl rfl rfl rfl _ origin (origin_zero 0) (origin_zero 1)
    (rows4 L1 L2 L3 L4) r x).trans ?_
  refine dite_congr rfl (fun _ => rfl) fun _ => zeros_at r x

/-- A product of two of its rows, summed. -/
theorem sum_rows (L1 L2 L3 L4 : FVec Ideal S64 .f32) (r r' : Fin 4) :
    ∑ x : Fin 128, lpOf L1 L2 L3 L4 (ix2 ⟨r.val, by omega⟩ x) * lpOf L1 L2 L3 L4 (ix2 ⟨r'.val, by omega⟩ x)
      = ∑ x : Fin 64, rows4 L1 L2 L3 L4 (ix2 r x) * rows4 L1 L2 L3 L4 (ix2 r' x) := by
  have lo : ∀ (r : Fin 4) (x : Fin 64), lpOf L1 L2 L3 L4 (ix2 ⟨r.val, by omega⟩ (Fin.castAdd 64 x)) = rows4 L1 L2 L3 L4 (ix2 r x) := by
    intro r x
    rw [lpOf_at, dif_pos ⟨r.isLt, x.isLt⟩]
    rfl
  have hi : ∀ (r : Fin 4) (x : Fin 64), lpOf L1 L2 L3 L4 (ix2 ⟨r.val, by omega⟩ (Fin.natAdd 64 x)) = 0 := by
    intro r x
    rw [lpOf_at, dif_neg]
    rintro ⟨_, h⟩
    have : 64 + x.val < 64 := h
    omega
  refine (Fin.sum_univ_add (a := 64) (b := 64) (M := EReal) _).trans ?_
  simp only [lo, hi, mul_zero, Finset.sum_const_zero, add_zero]

theorem lamOf_lpOf (L1 L2 L3 L4 : FVec Ideal S64 .f32) : lamOf (lpOf L1 L2 L3 L4) = lam L1 L2 L3 L4 := by
  have a := sum_rows L1 L2 L3 L4 0 1
  have b := sum_rows L1 L2 L3 L4 2 3
  simp only [rows4_0, rows4_1] at a
  simp only [rows4_2, rows4_3] at b
  unfold lamOf lam
  rw [← a, ← b]
  rfl

end Cert.DiffAttn

end
-- ==== Proof.Bridge.lean ====
module

public import proofs.«01_k».proof.Proof.Rows
public import proofs.«01_k».proof.Proof.Host
public import proofs.«01_k».proof.Proof.HostLam

@[expose] public section

/-!
# The kernel's result array

Point `t` of the grid holds head `t / 65` and row tile `t % 65`; tile 64 is the context. Every point writes its own
block, so the array after the run is `attn` of the arguments.
-/

set_option maxRecDepth 16384

noncomputable section

namespace Cert.DiffAttn

open Cert.KernelIdeal Cert.KernelIdeal.Gen Idealize.ShloMosaic Idealize.ShloMosaic.TcCoe Idealize.SL.Sem
open Idealize.ShloMosaic.Pipeline (Dat)
open Cert.Softmax

theorem idx : ∀ t : Fin cfg0.N, win0_0.index t = ![0, t.val % 65, t.val / 65] ∧ win0_1.index t = ![0, t.val / 65]
    ∧ win0_2.index t = ![0, 32 + t.val / 65] ∧ win0_3.index t = ![t.val % 65, 40 + t.val / 65]
    ∧ win0_4.index t = ![0, 0] ∧ win0_5.index t = ![0, 0] ∧ win0_6.index t = ![t.val % 65, t.val / 65] ∧ t.val / 65 < 8 :=
  (by decide +kernel : ∀ t : Fin grid0.N, _)

/-- The head and the array row of a point's row. -/
def headOf (t : Fin cfg0.N) : Fin 8 := ⟨t.val / 65, (idx t).2.2.2.2.2.2.2⟩
def rowAt (t : Fin cfg0.N) (r : Fin 256) : Fin 16640 := ⟨t.val % 65 * 256 + r.val, by omega⟩

variable (m : (ℓ : Loc nD τ sig) → Buf (Elt Ideal) ℓ)

section blocks
variable (c : Dev nD) (t : Fin cfg0.N)

theorem blkQ (p : Fin 2) (r : Fin 256) (d : Fin 128) :
    (show Vec Ideal S2x256x128 .bf16 from iblk m c 0 t) (ix3 p r d)
      = (show Vec Ideal S2x16640x1024 .bf16 from m ((c : Thread nD τ).loc main_arg0)) (ix3 p (rowAt t r) (col (headOf t) d)) := by
  blk_ext [iblk, V, idx t, rowAt, headOf, col]

theorem blkK (k : Fin 16640) (d : Fin 128) :
    (show Vec Ideal S16640x128 .bf16 from iblk m c 1 t) (ix2 k d)
      = (show Vec Ideal S16640x1024 .bf16 from m ((c : Thread nD τ).loc main_arg1)) (ix2 k (col (headOf t) d)) := by
  blk_ext [iblk, V, idx t, rowAt, headOf, col]

theorem blkV (k : Fin 16640) (d : Fin 128) :
    (show Vec Ideal S16640x128 .bf16 from iblk m c 2 t) (ix2 k d)
      = (show Vec Ideal S16640x6144 .bf16 from m ((c : Thread nD τ).loc main_arg2)) (ix2 k (vcol (headOf t) d)) := by
  blk_ext [iblk, V, idx t, rowAt, headOf, vcol]

theorem blkG (r : Fin 256) (e : Fin 128) :
    (show Vec Ideal S256x128 .bf16 from iblk m c 3 t) (ix2 r e)
      = (show Vec Ideal S16640x6144 .bf16 from m ((c : Thread nD τ).loc main_arg2)) (ix2 (rowAt t r) (gcol (headOf t) e)) := by
  blk_ext [iblk, V, idx t, rowAt, headOf, gcol]

theorem blkL : (show Vec Ideal S8x128 .f32 from iblk m c 4 t) = (show Vec Ideal S8x128 .f32 from V m c main_v9) := by
  blk_ext! [iblk, idx t]

theorem blkN : (show Vec Ideal S1x128 .f32 from iblk m c 5 t) = (show Vec Ideal S1x128 .f32 from V m c main_v10) := by
  blk_ext! [iblk, idx t]

end blocks

theorem attn_at (X0 X1 X2 L1 L2 L3 L4 X7) (j : S16640x1024.Idx) (n : Fin 16640) (h : Fin 8) (e : Fin 128)
    (h0 : (j 0).val = n.val) (h1 : (j 1).val = h.val * 128 + e.val) :
    attn X0 X1 X2 L1 L2 L3 L4 X7 j = attnAt X0 X1 X2 L1 L2 L3 L4 X7 n h e := by
  have e0 : j 0 = n := Fin.ext h0
  have e1 : ∀ p, (⟨(j 1).val / 128, p⟩ : Fin 8) = h := fun p => Fin.ext (by show (j 1).val / 128 = h.val; omega)
  have e2 : ∀ p, (⟨(j 1).val % 128, p⟩ : Fin 128) = e := fun p => Fin.ext (by show (j 1).val % 128 = e.val; omega)
  unfold attn
  rw [e0, e1, e2]

/-- The argument arrays, typed. -/
abbrev Q (c : Dev nD) : Vec Ideal S2x16640x1024 .bf16 := m ((c : Thread nD τ).loc main_arg0)
abbrev K (c : Dev nD) : Vec Ideal S16640x1024 .bf16 := m ((c : Thread nD τ).loc main_arg1)
abbrev Z (c : Dev nD) : Vec Ideal S16640x6144 .bf16 := m ((c : Thread nD τ).loc main_arg2)
abbrev L1 (c : Dev nD) : Vec Ideal S64 .f32 := m ((c : Thread nD τ).loc main_arg3)
abbrev L2 (c : Dev nD) : Vec Ideal S64 .f32 := m ((c : Thread nD τ).loc main_arg4)
abbrev L3 (c : Dev nD) : Vec Ideal S64 .f32 := m ((c : Thread nD τ).loc main_arg5)
abbrev L4 (c : Dev nD) : Vec Ideal S64 .f32 := m ((c : Thread nD τ).loc main_arg6)
abbrev Gn (c : Dev nD) : Vec Ideal S128 .f32 := m ((c : Thread nD τ).loc main_arg7)

theorem gain_at (g : Vec Ideal S128 .f32) (e : Fin 128) : shapeCast S1x128 g shapeCasts_S128_S1x128 (ix2 0 e) = g (ix1 e) := by
  pointwise

section main
variable (c : Dev nD)
  (hQ : ∀ i, IsR (Q m c i)) (hK : ∀ i, IsR (K m c i))
  (hV : ∀ n h e, IsR (Z m c (ix2 n (vcol h e))))

include hQ hK hV

theorem point (t : Fin cfg0.N) (r : Fin 256) (e : Fin 128) :
    (show Vec Ideal S256x128 .bf16 from outsAt0 m c t.val t.isLt) (ix2 r e)
      = attnAt (Q m c) (K m c) (Z m c) (L1 m c) (L2 m c) (L3 m c) (L4 m c) (Gn m c) (rowAt t r) (headOf t) e := by
  have hq : ∀ p r d, (show Vec Ideal S2x256x128 .bf16 from iblk m c 0 t) (ix3 p r d)
      = (((Q m c (ix3 p (rowAt t r) (col (headOf t) d))).toReal : ℝ) : EReal) := fun p r d => (blkQ m c t p r d).trans (hQ _).eq
  have hk : ∀ k d, (show Vec Ideal S16640x128 .bf16 from iblk m c 1 t) (ix2 k d)
      = (((K m c (ix2 k (col (headOf t) d))).toReal : ℝ) : EReal) := fun k d => (blkK m c t k d).trans (hK _).eq
  have hv : ∀ k d, (show Vec Ideal S16640x128 .bf16 from iblk m c 2 t) (ix2 k d)
      = (((Z m c (ix2 k (vcol (headOf t) d))).toReal : ℝ) : EReal) := fun k d => (blkV m c t k d).trans (hV _ _ _).eq
  have hl : lamOf (show Vec Ideal S8x128 .f32 from iblk m c 4 t) = lam (L1 m c) (L2 m c) (L3 m c) (L4 m c) := by
    rw [blkL, lp_entry]
    exact lamOf_lpOf _ _ _ _
  have hg : (show Vec Ideal S1x128 .f32 from iblk m c 5 t) (ix2 0 e) = Gn m c (ix1 e) := by
    rw [blkN, gain_entry]
    exact gain_at _ e
  have hgt : (show Vec Ideal S256x128 .bf16 from iblk m c 3 t) (ix2 r e) = Z m c (ix2 (rowAt t r) (gcol (headOf t) e)) :=
    blkG m c t r e
  by_cases h0 : t.val % 65 ≤ 63
  · have h1 : ¬ t.val % 65 = 64 := by omega
    rw [outsAt0_A m c t h0 h1]
    refine (outA_at c _ _ _ _ _ _ _ _ _ _ _ _ _ _ _ (iblk m c 0 t) (iblk m c 1 t) (iblk m c 2 t) (iblk m c 3 t) (iblk m c 4 t)
      (iblk m c 5 t) _ _ _ hq hk hv _ _ r e).trans ?_
    have hn : (rowAt t r).val < 16384 := by show t.val % 65 * 256 + r.val < 16384; omega
    unfold attnAt avg
    simp only [if_pos hn]
    rw [← hl, ← hg, ← hgt]
    rfl
  · have h1 : t.val % 65 = 64 := by omega
    rw [outsAt0_B m c t h0 h1]
    refine (outB_at c _ _ _ _ _ _ _ _ _ _ _ _ _ _ _ (iblk m c 0 t) (iblk m c 1 t) (iblk m c 2 t) (iblk m c 3 t) (iblk m c 4 t)
      (iblk m c 5 t) _ _ _ hq hk hv _ _ r e).trans ?_
    have hn : ¬ (rowAt t r).val < 16384 := by show ¬ t.val % 65 * 256 + r.val < 16384; omega
    unfold attnAt avg
    simp only [if_neg hn]
    rw [← hl, ← hg, ← hgt]
    rfl

set_option maxHeartbeats 1000000 in
theorem final : (dats m 0 c).arrAt 6 cfg0.N
    = attn (Q m c) (K m c) (Z m c) (L1 m c) (L2 m c) (L3 m c) (L4 m c) (Gn m c) := by
  refine (dats m 0 c).arrAt_eq_of_covers 6 _ (by decide +kernel) fun t hf y => ?_
  blk_simp
  rw [after0_6]
  obtain ⟨r, e, rfl⟩ : ∃ (r : Fin 256) (e : Fin 128), y = ix2 r e := ⟨y 0, y 1, eq_ix2 y⟩
  refine (point m c hQ hK hV t r e).trans (attn_at _ _ _ _ _ _ _ _ _ _ _ _ ?_ ?_).symm
  · blk_simp [idx t, rowAt]
  · blk_simp [idx t, headOf]

end main

end Cert.DiffAttn

end
-- ==== Proof.RefSteps.lean ====
module

public import proofs.«01_k».proof.Proof.Gen.ReferenceIdeal.Run
public import Idealize.ShloMosaic.Lib.Pipeline.ValueKit

@[expose] public section

/-!
# The reference's term, cut into its steps and read at an index
-/

set_option maxRecDepth 16384

noncomputable section

namespace Cert.DiffAttnRef

open Cert.ReferenceIdeal Cert.ReferenceIdeal.Gen Idealize.ShloMosaic Idealize.ShloMosaic.TcCoe Idealize.SL.Sem

/-- The queries by row, head, map and column. -/
def qT (X0 : FVec Ideal S2x16640x1024 .bf16) : FVec Ideal S16640x8x2x128 .f32 :=
  transpose S16640x8x2x128 [1, 2, 0, 3] (shapeCast _ (extf .f32 X0 bitsLt_bf16_f32) shapeCasts_S2x16640x1024_S2x16640x8x128) transposes_S2x16640x8x128_S16640x8x2x128_1_2_0_3

/-- The keys by row, head and column. -/
def kT (X1 : FVec Ideal S16640x1024 .bf16) : FVec Ideal S16640x8x128 .f32 :=
  shapeCast _ (extf .f32 X1 bitsLt_bf16_f32) shapeCasts_S16640x1024_S16640x8x128

/-- The values by row, head and column. -/
def vT (X2 : FVec Ideal S16640x6144 .bf16) : FVec Ideal S16640x8x128 .f32 :=
  shapeCast _ (extf .f32 (extractStridedSlice S16640x1024 ![0, 4096] X2 slices_S16640x6144_S16640x1024_0_4096) bitsLt_bf16_f32) shapeCasts_S16640x1024_S16640x8x128

/-- The weight of the second map. -/
def lamR (L1 L2 L3 L4 : FVec Ideal S64 .f32) : FVec Ideal S_ .f32 :=
  addf (subf (Host.exp (Host.reduceAdd (mulf L1 L2) (constant S_ .f32 0x00000000#32) reducesTo_S64_S_d0 h_S_)) (Host.exp (Host.reduceAdd (mulf L3 L4) (constant S_ .f32 0x00000000#32) reducesTo_S64_S_d0 h_S_))) (constant S_ .f32 0x3EB60549#32)

/-- The scores, of the latent rows. -/
def sL (q : FVec Ideal S16640x8x2x128 .f32) (k : FVec Ideal S16640x8x128 .f32) : FVec Ideal S8x2x16384x16640 .f32 :=
  transpose S8x2x16384x16640 [0, 3, 2, 1] (Host.dotGeneral dot_S16640x8x128_S16384x8x2x128_S8x16640x16384x2_2_3_0_02_1_1 none k (extractStridedSlice S16384x8x2x128 ![0, 0, 0, 0] q slices_S16640x8x2x128_S16384x8x2x128_0_0_0_0)) transposes_S8x16640x16384x2_S8x2x16384x16640_0_3_2_1

/-- The context rows of the queries, and of the keys or values. -/
def qTail (q : FVec Ideal S16640x8x2x128 .f32) : FVec Ideal S256x8x2x128 .f32 :=
  extractStridedSlice S256x8x2x128 ![16384, 0, 0, 0] q slices_S16640x8x2x128_S256x8x2x128_16384_0_0_0
def kTail (k : FVec Ideal S16640x8x128 .f32) : FVec Ideal S256x8x128 .f32 :=
  extractStridedSlice S256x8x128 ![16384, 0, 0] k slices_S16640x8x128_S256x8x128_16384_0_0

/-- The scores, of the context rows. -/
def sC (q : FVec Ideal S256x8x2x128 .f32) (k : FVec Ideal S256x8x128 .f32) : FVec Ideal S8x2x256x256 .f32 :=
  transpose S8x2x256x256 [0, 3, 2, 1] (Host.dotGeneral dot_S256x8x128_S256x8x2x128_S8x256x256x2_2_3_0_02_1_1 none k q) transposes_S8x256x256x2_S8x2x256x256_0_3_2_1

/-- The largest score of each row, of the latent rows. -/
def mL (z : FVec Ideal S8x2x16384x16640 .f32) : FVec Ideal S8x2x16384 .f32 :=
  maximumf (broadcastInDim S8x2x16384 ![] bcast_S_S8x2x16384 (constant S_ .f32 0xFF800000#32)) (Host.reduce FloatOps.maximumf z (constant S_ .f32 0xFF800000#32) reducesTo_S8x2x16384x16640_S8x2x16384_d3 h_S_)

/-- The exponentials of the scores less the largest, of the latent rows. -/
def eL (z : FVec Ideal S8x2x16384x16640 .f32) (mm : FVec Ideal S8x2x16384 .f32) : FVec Ideal S8x2x16384x16640 .f32 :=
  Host.exp (subf z (broadcastInDim S8x2x16384x16640 ![0, 1, 2, 3] bcast_S8x2x16384x1_S8x2x16384x16640_0_1_2_3 (broadcastInDim S8x2x16384x1 ![0, 1, 2] bcast_S8x2x16384_S8x2x16384x1_0_1_2 mm)))

/-- Their sum along a row, of the latent rows. -/
def dL (z : FVec Ideal S8x2x16384x16640 .f32) : FVec Ideal S8x2x16384 .f32 :=
  Host.reduceAdd z (constant S_ .f32 0x00000000#32) reducesTo_S8x2x16384x16640_S8x2x16384_d3 h_S_

/-- The softmax, of the latent rows. -/
def pL (z : FVec Ideal S8x2x16384x16640 .f32) (mm : FVec Ideal S8x2x16384 .f32) : FVec Ideal S8x2x16384x16640 .f32 :=
  Host.divf z (broadcastInDim S8x2x16384x16640 ![0, 1, 2, 3] bcast_S8x2x16384x1_S8x2x16384x16640_0_1_2_3 (broadcastInDim S8x2x16384x1 ![0, 1, 2] bcast_S8x2x16384_S8x2x16384x1_0_1_2 mm))

/-- The first map's softmax less the weighted second, of the latent rows. -/
def wL (z : FVec Ideal S8x2x16384x16640 .f32) (l : FVec Ideal S_ .f32) : FVec Ideal S8x16384x16640 .f32 :=
  subf (shapeCast _ (extractStridedSlice S8x1x16384x16640 ![0, 0, 0, 0] z slices_S8x2x16384x16640_S8x1x16384x16640_0_0_0_0) shapeCasts_S8x1x16384x16640_S8x16384x16640) (mulf (broadcastInDim S8x16384x16640 ![] bcast_S_S8x16384x16640 l) (shapeCast _ (extractStridedSlice S8x1x16384x16640 ![0, 1, 0, 0] z slices_S8x2x16384x16640_S8x1x16384x16640_0_1_0_0) shapeCasts_S8x1x16384x16640_S8x16384x16640))

/-- The largest score of each row, of the context rows. -/
def mC (z : FVec Ideal S8x2x256x256 .f32) : FVec Ideal S8x2x256 .f32 :=
  maximumf (broadcastInDim S8x2x256 ![] bcast_S_S8x2x256 (constant S_ .f32 0xFF800000#32)) (Host.reduce FloatOps.maximumf z (constant S_ .f32 0xFF800000#32) reducesTo_S8x2x256x256_S8x2x256_d3 h_S_)

/-- The exponentials of the scores less the largest, of the context rows. -/
def eC (z : FVec Ideal S8x2x256x256 .f32) (mm : FVec Ideal S8x2x256 .f32) : FVec Ideal S8x2x256x256 .f32 :=
  Host.exp (subf z (broadcastInDim S8x2x256x256 ![0, 1, 2, 3] bcast_S8x2x256x1_S8x2x256x256_0_1_2_3 (broadcastInDim S8x2x256x1 ![0, 1, 2] bcast_S8x2x256_S8x2x256x1_0_1_2 mm)))

/-- Their sum along a row, of the context rows. -/
def dC (z : FVec Ideal S8x2x256x256 .f32) : FVec Ideal S8x2x256 .f32 :=
  Host.reduceAdd z (constant S_ .f32 0x00000000#32) reducesTo_S8x2x256x256_S8x2x256_d3 h_S_

/-- The softmax, of the context rows. -/
def pC (z : FVec Ideal S8x2x256x256 .f32) (mm : FVec Ideal S8x2x256 .f32) : FVec Ideal S8x2x256x256 .f32 :=
  Host.divf z (broadcastInDim S8x2x256x256 ![0, 1, 2, 3] bcast_S8x2x256x1_S8x2x256x256_0_1_2_3 (broadcastInDim S8x2x256x1 ![0, 1, 2] bcast_S8x2x256_S8x2x256x1_0_1_2 mm))

/-- The first map's softmax less the weighted second, of the context rows. -/
def wC (z : FVec Ideal S8x2x256x256 .f32) (l : FVec Ideal S_ .f32) : FVec Ideal S8x256x256 .f32 :=
  subf (shapeCast _ (extractStridedSlice S8x1x256x256 ![0, 0, 0, 0] z slices_S8x2x256x256_S8x1x256x256_0_0_0_0) shapeCasts_S8x1x256x256_S8x256x256) (mulf (broadcastInDim S8x256x256 ![] bcast_S_S8x256x256 l) (shapeCast _ (extractStridedSlice S8x1x256x256 ![0, 1, 0, 0] z slices_S8x2x256x256_S8x1x256x256_0_1_0_0) shapeCasts_S8x1x256x256_S8x256x256))

/-- The averaged values of all rows, the latent ones first. -/
def oT (v : FVec Ideal S16640x8x128 .f32) (wl : FVec Ideal S8x16384x16640 .f32) (vc : FVec Ideal S256x8x128 .f32) (wc : FVec Ideal S8x256x256 .f32) : FVec Ideal S16640x8x128 .f32 :=
  concatenate S16640x8x128 0 [⟨S16384x8x128, (transpose S16384x8x128 [2, 0, 1] (Host.dotGeneral dot_S16640x8x128_S8x16384x16640_S8x128x16384_0_2_2_1_1_0 none v wl) transposes_S8x128x16384_S16384x8x128_2_0_1)⟩, ⟨S256x8x128, (transpose S256x8x128 [2, 0, 1] (Host.dotGeneral dot_S256x8x128_S8x256x256_S8x128x256_0_2_2_1_1_0 none vc wc) transposes_S8x128x256_S256x8x128_2_0_1)⟩] concatenates_S16384x8x128_S256x8x128_S16640x8x128_d0

/-- Norm, gain, factor and gate. -/
def tailT (o : FVec Ideal S16640x8x128 .f32) (X2 : FVec Ideal S16640x6144 .bf16) (g : FVec Ideal S128 .f32) : FVec Ideal S16640x1024 .bf16 :=
  truncf .bf16 (mulf (shapeCast _ (mulf (mulf (mulf o (broadcastInDim S16640x8x128 ![0, 1, 2] bcast_S16640x8x1_S16640x8x128_0_1_2 (Host.rsqrt (addf (Host.divf (broadcastInDim S16640x8x1 ![0, 1] bcast_S16640x8_S16640x8x1_0_1 (Host.reduceAdd (mulf o o) (constant S_ .f32 0x00000000#32) reducesTo_S16640x8x128_S16640x8_d2 h_S_)) (broadcastInDim S16640x8x1 ![] bcast_S_S16640x8x1 (constant S_ .f32 0x43000000#32))) (broadcastInDim S16640x8x1 ![] bcast_S_S16640x8x1 (constant S_ .f32 0x358637BD#32)))))) (broadcastInDim S16640x8x128 ![0, 1, 2] bcast_S1x1x128_S16640x8x128_0_1_2 (broadcastInDim S1x1x128 ![2] bcast_S128_S1x1x128_2 g))) (broadcastInDim S16640x8x128 ![] bcast_S_S16640x8x128 (constant S_ .f32 0x3F24FD5C#32))) shapeCasts_S16640x8x128_S16640x1024) (mulf (extf .f32 (extractStridedSlice S16640x1024 ![0, 5120] X2 slices_S16640x6144_S16640x1024_0_5120) bitsLt_bf16_f32) (Host.divf (broadcastInDim S16640x1024 ![] bcast_S_S16640x1024 (constant S_ .f32 0x3F800000#32)) (addf (broadcastInDim S16640x1024 ![] bcast_S_S16640x1024 (constant S_ .f32 0x3F800000#32)) (Host.exp (Host.negf (extf .f32 (extractStridedSlice S16640x1024 ![0, 5120] X2 slices_S16640x6144_S16640x1024_0_5120) bitsLt_bf16_f32))))))) bitsLt_bf16_f32

end Cert.DiffAttnRef

end
-- ==== Proof.RefRes.lean ====
module

public import proofs.«01_k».proof.Proof.RefSteps

@[expose] public section

/-! The reference's result is the composition of its steps. -/

set_option maxRecDepth 16384

noncomputable section

namespace Cert.DiffAttnRef

open Cert.ReferenceIdeal Cert.ReferenceIdeal.Gen Idealize.ShloMosaic Idealize.ShloMosaic.TcCoe Idealize.SL.Sem

set_option maxHeartbeats 1000000 in
theorem res_eq (m : (ℓ : Loc nD τ sig) → Buf (Elt Ideal) ℓ) (c : Dev nD)
    (X0 : FVec Ideal S2x16640x1024 .bf16) (X1 : FVec Ideal S16640x1024 .bf16) (X2 : FVec Ideal S16640x6144 .bf16)
    (L1 L2 L3 L4 : FVec Ideal S64 .f32) (X7 : FVec Ideal S128 .f32)
    (h0 : m ((c.tc : Thread nD τ).loc main_arg0) = X0) (h1 : m ((c.tc : Thread nD τ).loc main_arg1) = X1)
    (h2 : m ((c.tc : Thread nD τ).loc main_arg2) = X2) (h3 : m ((c.tc : Thread nD τ).loc main_arg3) = L1)
    (h4 : m ((c.tc : Thread nD τ).loc main_arg4) = L2) (h5 : m ((c.tc : Thread nD τ).loc main_arg5) = L3)
    (h6 : m ((c.tc : Thread nD τ).loc main_arg6) = L4) (h7 : m ((c.tc : Thread nD τ).loc main_arg7) = X7) :
    Cert.ReferenceIdeal.Value.res_main_v85 m c
      = tailT (oT (vT X2) (wL (pL (eL (sL (qT X0) (kT X1)) (mL (sL (qT X0) (kT X1)))) (dL (eL (sL (qT X0) (kT X1)) (mL (sL (qT X0) (kT X1)))))) (lamR L1 L2 L3 L4)) (kTail (vT X2)) (wC (pC (eC (sC (qTail (qT X0)) (kTail (kT X1))) (mC (sC (qTail (qT X0)) (kTail (kT X1))))) (dC (eC (sC (qTail (qT X0)) (kTail (kT X1))) (mC (sC (qTail (qT X0)) (kTail (kT X1))))))) (lamR L1 L2 L3 L4))) X2 X7 := by
  subst h0 h1 h2 h3 h4 h5 h6 h7
  rfl

end Cert.DiffAttnRef

end
-- ==== Proof.RefScores.lean ====
module

public import proofs.«01_k».proof.Proof.RefSteps

@[expose] public section

/-! The reference's scores, read at an index. -/

set_option maxRecDepth 16384

noncomputable section

namespace Cert.DiffAttnRef

open Cert.ReferenceIdeal Cert.ReferenceIdeal.Gen Idealize.ShloMosaic Idealize.ShloMosaic.TcCoe Idealize.SL.Sem

theorem qT_at (X0) (n : Fin 16640) (h : Fin 8) (p : Fin 2) (d : Fin 128) :
    qT X0 (ix4 n h p d) = X0 (ix3 p n ⟨h.val * 128 + d.val, by omega⟩) := by
  pointwise [qT]

theorem kT_at (X1) (n : Fin 16640) (h : Fin 8) (d : Fin 128) :
    kT X1 (ix3 n h d) = X1 (ix2 n ⟨h.val * 128 + d.val, by omega⟩) := by
  pointwise [kT]

theorem vT_at (X2) (n : Fin 16640) (h : Fin 8) (d : Fin 128) :
    vT X2 (ix3 n h d) = X2 (ix2 n ⟨4096 + (h.val * 128 + d.val), by omega⟩) := by
  pointwise [vT]

theorem lamR_at (L1 L2 L3 L4) :
    lamR L1 L2 L3 L4 ix0 = Ideal.exp (0 + ∑ x : Fin 64, L1 (ix1 x) * L2 (ix1 x))
      - Ideal.exp (0 + ∑ x : Fin 64, L3 (ix1 x) * L4 (ix1 x)) + Ideal.ofBits .f32 1052116297#32 := by
  pointwise [lamR]

theorem sL_at (q k) (h : Fin 8) (p : Fin 2) (n : Fin 16384) (x : Fin 16640) :
    sL q k (ix4 h p n x) = ∑ d : Fin 128, k (ix3 x h d) * q (ix4 ⟨n.val, by omega⟩ h p d) := by
  pointwise [sL]

theorem sC_at (q k) (h : Fin 8) (p : Fin 2) (n : Fin 256) (x : Fin 256) :
    sC q k (ix4 h p n x) = ∑ d : Fin 128, k (ix3 x h d) * q (ix4 n h p d) := by
  pointwise [sC]

end Cert.DiffAttnRef

end
-- ==== Proof.RefTails.lean ====
module

public import proofs.«01_k».proof.Proof.RefSteps

@[expose] public section

/-! The reference's context rows, read at an index. -/

set_option maxRecDepth 16384

noncomputable section

namespace Cert.DiffAttnRef

open Cert.ReferenceIdeal Cert.ReferenceIdeal.Gen Idealize.ShloMosaic Idealize.ShloMosaic.TcCoe Idealize.SL.Sem

theorem kTail_at (k) (x : Fin 256) (h : Fin 8) (d : Fin 128) :
    kTail k (ix3 x h d) = k (ix3 ⟨16384 + x.val, by omega⟩ h d) := by
  pointwise [kTail]

theorem qTail_at (q) (x : Fin 256) (h : Fin 8) (p : Fin 2) (d : Fin 128) :
    qTail q (ix4 x h p d) = q (ix4 ⟨16384 + x.val, by omega⟩ h p d) := by
  pointwise [qTail]

end Cert.DiffAttnRef

end
-- ==== Proof.RefMaxL.lean ====
module

public import proofs.«01_k».proof.Proof.RefSteps

@[expose] public section

/-! The reference's largest scores, latent rows, read at an index. -/

set_option maxRecDepth 16384

noncomputable section

namespace Cert.DiffAttnRef

open Cert.ReferenceIdeal Cert.ReferenceIdeal.Gen Idealize.ShloMosaic Idealize.ShloMosaic.TcCoe Idealize.SL.Sem

theorem redL_at (z : FVec Ideal S8x2x16384x16640 .f32) (h : Fin 8) (p : Fin 2) (n : Fin 16384) :
    Host.reduce FloatOps.maximumf z (constant (F := Ideal) S_ .f32 0xFF800000#32) reducesTo_S8x2x16384x16640_S8x2x16384_d3 h_S_ (ix3 h p n)
      = Finset.univ.fold max (Ideal.ofBits .f32 4286578688#32) fun x : Fin 16640 => z (ix4 h p n x) := by
  simp only [pointwise]

theorem maxL_at (z w : FVec Ideal S8x2x16384 .f32) (j) : maximumf z w j = max (z j) (w j) := rfl

theorem botL_at (j) : (broadcastInDim S8x2x16384 ![] bcast_S_S8x2x16384 (constant (F := Ideal) S_ .f32 0xFF800000#32)) j
    = Ideal.ofBits .f32 4286578688#32 := rfl

theorem mL_at (z : FVec Ideal S8x2x16384x16640 .f32) (h : Fin 8) (p : Fin 2) (n : Fin 16384) :
    mL z (ix3 h p n) = max (Ideal.ofBits .f32 4286578688#32) (Finset.univ.fold max (Ideal.ofBits .f32 4286578688#32)
      fun x : Fin 16640 => z (ix4 h p n x)) := by
  unfold mL
  refine (maxL_at _ _ _).trans ?_
  exact congrArg₂ max (botL_at _) (redL_at z h p n)

end Cert.DiffAttnRef

end
-- ==== Proof.RefMaxC.lean ====
module

public import proofs.«01_k».proof.Proof.RefSteps

@[expose] public section

/-! The reference's largest scores, context rows, read at an index. -/

set_option maxRecDepth 16384

noncomputable section

namespace Cert.DiffAttnRef

open Cert.ReferenceIdeal Cert.ReferenceIdeal.Gen Idealize.ShloMosaic Idealize.ShloMosaic.TcCoe Idealize.SL.Sem

theorem redC_at (z : FVec Ideal S8x2x256x256 .f32) (h : Fin 8) (p : Fin 2) (n : Fin 256) :
    Host.reduce FloatOps.maximumf z (constant (F := Ideal) S_ .f32 0xFF800000#32) reducesTo_S8x2x256x256_S8x2x256_d3 h_S_ (ix3 h p n)
      = Finset.univ.fold max (Ideal.ofBits .f32 4286578688#32) fun x : Fin 256 => z (ix4 h p n x) := by
  simp only [pointwise]

theorem maxC_at (z w : FVec Ideal S8x2x256 .f32) (j) : maximumf z w j = max (z j) (w j) := rfl

theorem botC_at (j) : (broadcastInDim S8x2x256 ![] bcast_S_S8x2x256 (constant (F := Ideal) S_ .f32 0xFF800000#32)) j
    = Ideal.ofBits .f32 4286578688#32 := rfl

theorem mC_at (z : FVec Ideal S8x2x256x256 .f32) (h : Fin 8) (p : Fin 2) (n : Fin 256) :
    mC z (ix3 h p n) = max (Ideal.ofBits .f32 4286578688#32) (Finset.univ.fold max (Ideal.ofBits .f32 4286578688#32)
      fun x : Fin 256 => z (ix4 h p n x)) := by
  unfold mC
  refine (maxC_at _ _ _).trans ?_
  exact congrArg₂ max (botC_at _) (redC_at z h p n)

end Cert.DiffAttnRef

end
-- ==== Proof.RefSoft.lean ====
module

public import proofs.«01_k».proof.Proof.RefSteps

@[expose] public section

/-! The reference's softmax, read at an index. -/

set_option maxRecDepth 16384

noncomputable section

namespace Cert.DiffAttnRef

open Cert.ReferenceIdeal Cert.ReferenceIdeal.Gen Idealize.ShloMosaic Idealize.ShloMosaic.TcCoe Idealize.SL.Sem

theorem eL_at (z mm) (h : Fin 8) (p : Fin 2) (n : Fin 16384) (x : Fin 16640) :
    eL z mm (ix4 h p n x) = Ideal.exp (z (ix4 h p n x) - mm (ix3 h p n)) := by
  pointwise [eL]

theorem eC_at (z mm) (h : Fin 8) (p : Fin 2) (n : Fin 256) (x : Fin 256) :
    eC z mm (ix4 h p n x) = Ideal.exp (z (ix4 h p n x) - mm (ix3 h p n)) := by
  pointwise [eC]

theorem dL_at (z) (h : Fin 8) (p : Fin 2) (n : Fin 16384) :
    dL z (ix3 h p n) = 0 + ∑ x : Fin 16640, z (ix4 h p n x) := by
  pointwise [dL]

theorem dC_at (z) (h : Fin 8) (p : Fin 2) (n : Fin 256) :
    dC z (ix3 h p n) = 0 + ∑ x : Fin 256, z (ix4 h p n x) := by
  pointwise [dC]

theorem pL_at (z mm) (h : Fin 8) (p : Fin 2) (n : Fin 16384) (x : Fin 16640) :
    pL z mm (ix4 h p n x) = Ideal.div (z (ix4 h p n x)) (mm (ix3 h p n)) := by
  pointwise [pL]

theorem pC_at (z mm) (h : Fin 8) (p : Fin 2) (n : Fin 256) (x : Fin 256) :
    pC z mm (ix4 h p n x) = Ideal.div (z (ix4 h p n x)) (mm (ix3 h p n)) := by
  pointwise [pC]

theorem wL_at (z l) (h : Fin 8) (n : Fin 16384) (x : Fin 16640) :
    wL z l (ix3 h n x) = z (ix4 h 0 n x) - l ix0 * z (ix4 h 1 n x) := by
  pointwise [wL]

theorem wC_at (z l) (h : Fin 8) (n : Fin 256) (x : Fin 256) :
    wC z l (ix3 h n x) = z (ix4 h 0 n x) - l ix0 * z (ix4 h 1 n x) := by
  pointwise [wC]

end Cert.DiffAttnRef

end
-- ==== Proof.RefOut.lean ====
module

public import proofs.«01_k».proof.Proof.RefSteps

@[expose] public section

/-! The reference's averaged values, read at an index. -/

set_option maxRecDepth 16384

noncomputable section

namespace Cert.DiffAttnRef

open Cert.ReferenceIdeal Cert.ReferenceIdeal.Gen Idealize.ShloMosaic Idealize.ShloMosaic.TcCoe Idealize.SL.Sem

theorem oT_at (v wl vc wc) (n : Fin 16640) (h : Fin 8) (e : Fin 128) :
    oT v wl vc wc (ix3 n h e) = if hn : n.val < 16384 then ∑ x : Fin 16640, v (ix3 x h e) * wl (ix3 h ⟨n.val, hn⟩ x)
      else ∑ x : Fin 256, vc (ix3 x h e) * wc (ix3 h ⟨n.val - 16384, by omega⟩ x) := by
  pointwise [oT]

end Cert.DiffAttnRef

end
-- ==== Proof.RefTail.lean ====
module

public import proofs.«01_k».proof.Proof.RefSteps

@[expose] public section

/-! The reference's norm and gate, read at an index. -/

set_option maxRecDepth 16384

noncomputable section

namespace Cert.DiffAttnRef

open Cert.ReferenceIdeal Cert.ReferenceIdeal.Gen Idealize.ShloMosaic Idealize.ShloMosaic.TcCoe Idealize.SL.Sem

theorem tailT_at (o X2 g) (n : Fin 16640) (c : Fin 1024) :
    tailT o X2 g (ix2 n c)
      = o (ix3 n ⟨c.val / 128, by omega⟩ ⟨c.val % 128, by omega⟩)
          * Ideal.rsqrt (Ideal.div (0 + ∑ x : Fin 128, o (ix3 n ⟨c.val / 128, by omega⟩ x) * o (ix3 n ⟨c.val / 128, by omega⟩ x))
              (Ideal.ofBits FTy.f32 1124073472#32) + Ideal.ofBits FTy.f32 897988541#32)
          * g (ix1 ⟨c.val % 128, by omega⟩) * Ideal.ofBits FTy.f32 1059388764#32
        * (X2 (ix2 n ⟨5120 + c.val, by omega⟩) * Ideal.div 1 (1 + Ideal.exp (-X2 (ix2 n ⟨5120 + c.val, by omega⟩)))) := by
  pointwise [tailT]

end Cert.DiffAttnRef

end
-- ==== Proof.RefFinal.lean ====
module

public import proofs.«01_k».proof.Proof.Formula
public import proofs.«01_k».proof.Proof.RefRes
public import proofs.«01_k».proof.Proof.RefScores
public import proofs.«01_k».proof.Proof.RefTails
public import proofs.«01_k».proof.Proof.RefMaxL
public import proofs.«01_k».proof.Proof.RefMaxC
public import proofs.«01_k».proof.Proof.RefSoft
public import proofs.«01_k».proof.Proof.RefOut
public import proofs.«01_k».proof.Proof.RefTail

@[expose] public section

/-! The reference computes `attn`, on arrays whose queries, keys, values and weights of the second map are real numbers. -/

set_option maxRecDepth 16384

noncomputable section

namespace Cert.DiffAttnRef

open Cert.ReferenceIdeal Cert.ReferenceIdeal.Gen Idealize.ShloMosaic Idealize.ShloMosaic.TcCoe Idealize.SL.Sem
open Cert.Softmax Cert.DiffAttn

variable (X0 : FVec Ideal S2x16640x1024 .bf16) (X1 : FVec Ideal S16640x1024 .bf16) (X2 : FVec Ideal S16640x6144 .bf16)
    (L1 L2 L3 L4 : FVec Ideal S64 .f32) (X7 : FVec Ideal S128 .f32)

/-- The largest of real scores, with the `-∞` it starts from, is a real number. -/
theorem isR_top {K : ℕ} (hK : 0 < K) (f : Fin K → EReal) (h : ∀ x, IsR (f x)) :
    IsR (max (Ideal.ofBits .f32 4286578688#32) (Finset.univ.fold max (Ideal.ofBits .f32 4286578688#32) f)) := by
  haveI : Nonempty (Fin K) := ⟨⟨0, hK⟩⟩
  rw [ofBits_negInf, max_bot_left]
  exact isR_fold_max _ Finset.univ_nonempty f h

theorem lamR_eq : lamR L1 L2 L3 L4 ix0 = lam L1 L2 L3 L4 := by
  rw [lamR_at, zero_add, zero_add]; rfl

theorem isR_lam (h1 : ∀ i, IsR (L1 i)) (h2 : ∀ i, IsR (L2 i)) (h3 : ∀ i, IsR (L3 i)) (h4 : ∀ i, IsR (L4 i)) :
    IsR (lam L1 L2 L3 L4) :=
  (((IsR.sum _ _ fun x => (h1 _).mul (h2 _)).exp).sub ((IsR.sum _ _ fun x => (h3 _).mul (h4 _)).exp)).add isR_lam0

/-- The two spellings of the gate's logistic function. -/
theorem gate_swap (a g : EReal) :
    a * (g * Ideal.div 1 (1 + Ideal.exp (-g))) = a * (g * Ideal.div 1 (1 + Ideal.exp (0 - g))) := by
  rw [sub_eq_add_neg, zero_add]

/-- A product of two real numbers, the other way round. -/
theorem mul_swap {x y : EReal} (hx : IsR x) (hy : IsR y) : x * y = ((y.toReal * x.toReal : ℝ) : EReal) := by
  obtain ⟨a, rfl⟩ := hx; obtain ⟨b, rfl⟩ := hy
  rw [EReal.toReal_coe, EReal.toReal_coe, mul_comm, EReal.coe_mul]

section
variable (h0 : ∀ i, IsR (X0 i)) (h1 : ∀ i, IsR (X1 i))
include h0 h1

theorem scoreL (h : Fin 8) (p : Fin 2) (n : Fin 16384) (x : Fin 16640) :
    sL (qT X0) (kT X1) (ix4 h p n x) = (score X0 X1 h p ⟨n.val, by omega⟩ x : EReal) := by
  rw [sL_at, score, ← coe_sum]
  refine Finset.sum_congr rfl fun d _ => ?_
  rw [kT_at, qT_at]
  exact mul_swap (h1 _) (h0 _)

theorem scoreC (h : Fin 8) (p : Fin 2) (n : Fin 256) (x : Fin 256) :
    sC (qTail (qT X0)) (kTail (kT X1)) (ix4 h p n x) = (score X0 X1 h p (ctxKey n) (ctxKey x) : EReal) := by
  rw [sC_at, score, ← coe_sum]
  refine Finset.sum_congr rfl fun d _ => ?_
  have e1 := kT_at X1 (ctxKey x) h d
  have e2 := qT_at X0 (ctxKey n) h p d
  exact (congrArg₂ (· * ·) ((kTail_at _ _ _ _).trans e1) ((qTail_at _ _ _ _ _).trans e2)).trans (mul_swap (h1 _) (h0 _))

theorem topL (h : Fin 8) (p : Fin 2) (n : Fin 16384) : IsR (mL (sL (qT X0) (kT X1)) (ix3 h p n)) := by
  rw [mL_at]
  exact isR_top (by norm_num) _ fun x => by rw [scoreL X0 X1 h0 h1]; exact IsR.coe _

theorem topC (h : Fin 8) (p : Fin 2) (n : Fin 256) :
    IsR (mC (sC (qTail (qT X0)) (kTail (kT X1))) (ix3 h p n)) := by
  rw [mC_at]
  exact isR_top (by norm_num) _ fun x => by rw [scoreC X0 X1 h0 h1]; exact IsR.coe _

theorem expL {M : ℝ} (h : Fin 8) (p : Fin 2) (n : Fin 16384) (hM : mL (sL (qT X0) (kT X1)) (ix3 h p n) = (M : EReal))
    (x : Fin 16640) : eL (sL (qT X0) (kT X1)) (mL (sL (qT X0) (kT X1))) (ix4 h p n x)
      = Ideal.exp ((score X0 X1 h p ⟨n.val, by omega⟩ x : EReal) - (M : EReal)) := by
  rw [eL_at, hM, scoreL X0 X1 h0 h1]

theorem expC {M : ℝ} (h : Fin 8) (p : Fin 2) (n : Fin 256)
    (hM : mC (sC (qTail (qT X0)) (kTail (kT X1))) (ix3 h p n) = (M : EReal)) (x : Fin 256) :
    eC (sC (qTail (qT X0)) (kTail (kT X1))) (mC (sC (qTail (qT X0)) (kTail (kT X1)))) (ix4 h p n x)
      = Ideal.exp ((score X0 X1 h p (ctxKey n) (ctxKey x) : EReal) - (M : EReal)) := by
  rw [eC_at, hM, scoreC X0 X1 h0 h1]

/-- The weight of key `x` under one map, for a latent row. -/
theorem probL {M : ℝ} (h : Fin 8) (p : Fin 2) (n : Fin 16384) (hM : mL (sL (qT X0) (kT X1)) (ix3 h p n) = (M : EReal))
    (x : Fin 16640) :
    pL (eL (sL (qT X0) (kT X1)) (mL (sL (qT X0) (kT X1)))) (dL (eL (sL (qT X0) (kT X1)) (mL (sL (qT X0) (kT X1))))) (ix4 h p n x)
      = Ideal.div (Ideal.exp ((score X0 X1 h p ⟨n.val, by omega⟩ x : EReal) - (M : EReal)))
          (0 + ∑ j, Ideal.exp ((score X0 X1 h p ⟨n.val, by omega⟩ j : EReal) - (M : EReal))) := by
  rw [pL_at, dL_at]
  simp only [expL X0 X1 h0 h1 h p n hM]

/-- The weight of context key `x` under one map, for a context row. -/
theorem probC {M : ℝ} (h : Fin 8) (p : Fin 2) (n : Fin 256)
    (hM : mC (sC (qTail (qT X0)) (kTail (kT X1))) (ix3 h p n) = (M : EReal)) (x : Fin 256) :
    pC (eC (sC (qTail (qT X0)) (kTail (kT X1))) (mC (sC (qTail (qT X0)) (kTail (kT X1)))))
        (dC (eC (sC (qTail (qT X0)) (kTail (kT X1))) (mC (sC (qTail (qT X0)) (kTail (kT X1)))))) (ix4 h p n x)
      = Ideal.div (Ideal.exp ((score X0 X1 h p (ctxKey n) (ctxKey x) : EReal) - (M : EReal)))
          (0 + ∑ j, Ideal.exp ((score X0 X1 h p (ctxKey n) (ctxKey j) : EReal) - (M : EReal))) := by
  rw [pC_at, dC_at]
  simp only [expC X0 X1 h0 h1 h p n hM]

variable (h2 : ∀ n h e, IsR (X2 (ix2 n (vcol h e)))) (hl : IsR (lam L1 L2 L3 L4))
include h2 hl

theorem value_eq (x : Fin 16640) (h : Fin 8) (e : Fin 128) :
    vT X2 (ix3 x h e) = ((X2 (ix2 x (vcol h e))).toReal : EReal) := by
  rw [vT_at, ← (h2 x h e).eq]
  exact congrArg (fun i => X2 (ix2 x i)) (Fin.ext (by show 4096 + (h.val * 128 + e.val) = 4096 + h.val * 128 + e.val; omega))

theorem row_L (n : Fin 16384) (h : Fin 8) (e : Fin 128) :
    ∑ x : Fin 16640, vT X2 (ix3 x h e) * wL (pL (eL (sL (qT X0) (kT X1)) (mL (sL (qT X0) (kT X1))))
        (dL (eL (sL (qT X0) (kT X1)) (mL (sL (qT X0) (kT X1)))))) (lamR L1 L2 L3 L4) (ix3 h n x)
      = (soft (fun k => score X0 X1 h 0 ⟨n.val, by omega⟩ k) (fun k => (X2 (ix2 k (vcol h e))).toReal) : EReal)
        - lam L1 L2 L3 L4 * (soft (fun k => score X0 X1 h 1 ⟨n.val, by omega⟩ k) (fun k => (X2 (ix2 k (vcol h e))).toReal) : EReal) := by
  obtain ⟨M0, hM0⟩ := topL X0 X1 h0 h1 h 0 n
  obtain ⟨M1, hM1⟩ := topL X0 X1 h0 h1 h 1 n
  obtain ⟨c, hc⟩ := hl
  haveI : Nonempty (Fin 16640) := ⟨⟨0, by norm_num⟩⟩
  rw [hc, ← soft_sub _ _ _ M0 M1 c]
  refine Finset.sum_congr rfl fun x _ => ?_
  rw [wL_at, probL X0 X1 h0 h1 h 0 n hM0, probL X0 X1 h0 h1 h 1 n hM1, lamR_eq, hc,
    value_eq X0 X1 X2 L1 L2 L3 L4 h0 h1 h2 ⟨c, hc⟩]

theorem row_C (n : Fin 256) (h : Fin 8) (e : Fin 128) :
    ∑ x : Fin 256, kTail (vT X2) (ix3 x h e) * wC (pC (eC (sC (qTail (qT X0)) (kTail (kT X1))) (mC (sC (qTail (qT X0)) (kTail (kT X1)))))
        (dC (eC (sC (qTail (qT X0)) (kTail (kT X1))) (mC (sC (qTail (qT X0)) (kTail (kT X1))))))) (lamR L1 L2 L3 L4) (ix3 h n x)
      = (soft (fun k => score X0 X1 h 0 (ctxKey n) (ctxKey k)) (fun k => (X2 (ix2 (ctxKey k) (vcol h e))).toReal) : EReal)
        - lam L1 L2 L3 L4 * (soft (fun k => score X0 X1 h 1 (ctxKey n) (ctxKey k)) (fun k => (X2 (ix2 (ctxKey k) (vcol h e))).toReal) : EReal) := by
  obtain ⟨M0, hM0⟩ := topC X0 X1 h0 h1 h 0 n
  obtain ⟨M1, hM1⟩ := topC X0 X1 h0 h1 h 1 n
  obtain ⟨c, hc⟩ := hl
  haveI : Nonempty (Fin 256) := ⟨⟨0, by norm_num⟩⟩
  rw [hc, ← soft_sub _ _ _ M0 M1 c]
  refine Finset.sum_congr rfl fun x _ => ?_
  rw [wC_at, probC X0 X1 h0 h1 h 0 n hM0, probC X0 X1 h0 h1 h 1 n hM1, lamR_eq, hc, kTail_at]
  exact congrArg (fun z => z * _) (value_eq X0 X1 X2 L1 L2 L3 L4 h0 h1 h2 ⟨c, hc⟩ (ctxKey x) h e)

/-- The attention of the reference, at a row, a head and a column. -/
theorem heads_at (n : Fin 16640) (h : Fin 8) (e : Fin 128) :
    oT (vT X2) (wL (pL (eL (sL (qT X0) (kT X1)) (mL (sL (qT X0) (kT X1)))) (dL (eL (sL (qT X0) (kT X1)) (mL (sL (qT X0) (kT X1)))))) (lamR L1 L2 L3 L4)) (kTail (vT X2)) (wC (pC (eC (sC (qTail (qT X0)) (kTail (kT X1))) (mC (sC (qTail (qT X0)) (kTail (kT X1))))) (dC (eC (sC (qTail (qT X0)) (kTail (kT X1))) (mC (sC (qTail (qT X0)) (kTail (kT X1))))))) (lamR L1 L2 L3 L4)) (ix3 n h e)
      = ((avg X0 X1 X2 h 0 n e : ℝ) : EReal) - lam L1 L2 L3 L4 * ((avg X0 X1 X2 h 1 n e : ℝ) : EReal) := by
  rw [oT_at]
  unfold avg
  by_cases hn : n.val < 16384
  · rw [dif_pos hn, if_pos hn, if_pos hn]
    exact row_L X0 X1 X2 L1 L2 L3 L4 h0 h1 h2 hl ⟨n.val, hn⟩ h e
  · rw [dif_neg hn, if_neg hn, if_neg hn]
    refine (row_C X0 X1 X2 L1 L2 L3 L4 h0 h1 h2 hl ⟨n.val - 16384, by omega⟩ h e).trans ?_
    have hk : ctxKey ⟨n.val - 16384, by omega⟩ = n := Fin.ext (by show 16384 + (n.val - 16384) = n.val; omega)
    rw [hk]

theorem result_eq :
    tailT (oT (vT X2) (wL (pL (eL (sL (qT X0) (kT X1)) (mL (sL (qT X0) (kT X1)))) (dL (eL (sL (qT X0) (kT X1)) (mL (sL (qT X0) (kT X1)))))) (lamR L1 L2 L3 L4)) (kTail (vT X2)) (wC (pC (eC (sC (qTail (qT X0)) (kTail (kT X1))) (mC (sC (qTail (qT X0)) (kTail (kT X1))))) (dC (eC (sC (qTail (qT X0)) (kTail (kT X1))) (mC (sC (qTail (qT X0)) (kTail (kT X1))))))) (lamR L1 L2 L3 L4))) X2 X7
      = attn X0 X1 X2 L1 L2 L3 L4 X7 := by
  funext j
  obtain ⟨n, c, rfl⟩ : ∃ (n : Fin 16640) (c : Fin 1024), j = ix2 n c := ⟨j 0, j 1, eq_ix2 j⟩
  have hc : (⟨5120 + c.val, by omega⟩ : Fin 6144) = gcol ⟨c.val / 128, by omega⟩ ⟨c.val % 128, by omega⟩ :=
    Fin.ext (by show 5120 + c.val = 5120 + c.val / 128 * 128 + c.val % 128; omega)
  rw [tailT_at]
  simp only [heads_at X0 X1 X2 L1 L2 L3 L4 h0 h1 h2 hl, zero_add, hc]
  exact gate_swap _ _

end

end Cert.DiffAttnRef

end
-- ==== Proof.PreFacts.lean ====
module

public import proofs.«01_k».proof.Proof.Formula
public import proofs.«01_k».proof.Pre_finite
public import proofs.«01_k».proof.Proof.Gen.Pre_finite
public import Idealize.ShloMosaic.Lib.ReduceAll

@[expose] public section

/-! What the precondition says: the queries, the keys, the values and the four vectors are real numbers. -/

set_option maxRecDepth 16384

noncomputable section

namespace Cert.DiffAttnPre

open Cert.Pre_finite Cert.Pre_finite.Gen Idealize.ShloMosaic Idealize.ShloMosaic.TcCoe Idealize.SL.Sem
open Cert.Softmax Cert.DiffAttn

theorem ofBits_inf : Ideal.ofBits .f32 0x7F800000#32 = ⊤ := by simp [Ideal.ofBits, Ideal.ieee]

/-- A number whose magnitude compares less than `∞` is a real number. -/
theorem isR_of_lt (x : EReal) (h : Ideal.cmp .olt (max x (-x)) (Ideal.ofBits .f32 0x7F800000#32) = 1#1) : IsR x := by
  rw [ofBits_inf] at h
  have hlt : max x (-x) < ⊤ := by
    by_contra hn
    rw [Ideal.cmp] at h
    simp [hn] at h
  induction x with
  | bot => simp at hlt
  | coe r => exact IsR.coe r
  | top => simp at hlt

instance : Subsingleton S_.Idx := ⟨fun a b => funext fun i => i.elim0⟩

/-- One conjunct of the precondition: every element of the array is a real number. -/
theorem isR_of_all {s : Shape} {axes : List (Fin s.rank)} (x : FVec Ideal s .f32) (hb : S_.BroadcastsInDim s (![] : Fin 0 → Fin s.rank))
    (hr : s.ReducesTo axes S_) (h : Host.reduce IntOp.andi (cmpf .olt (Host.absf x)
      (broadcastInDim s ![] hb (constant (F := Ideal) S_ .f32 0x7F800000#32))) (constantI S_ 1 1#1) hr h_S_ ix0 = 1#1) (i : s.Idx) :
    IsR (x i) :=
  isR_of_lt _ (Host.reduce_andi_all _ _ hr h_S_ ix0 h i)

theorem and_split {a b : IVec S_ 1} (h : andi a b ix0 = 1#1) : a ix0 = 1#1 ∧ b ix0 = 1#1 := IntOp.andi_eq_one.1 h

theorem slice_at (X2 : FVec Ideal S16640x6144 .bf16) (n : Fin 16640) (c : Fin 1024) :
    (extractStridedSlice S16640x1024 ![0, 4096] X2 slices_S16640x6144_S16640x1024_0_4096 : FVec Ideal S16640x1024 .bf16) (ix2 n c)
      = X2 (ix2 n ⟨4096 + c.val, by omega⟩) := by
  pointwise

theorem reals (X0 : FVec Ideal S2x16640x1024 .bf16) (X1 : FVec Ideal S16640x1024 .bf16) (X2 : FVec Ideal S16640x6144 .bf16)
    (L1 L2 L3 L4 : FVec Ideal S64 .f32) (X7 : FVec Ideal S128 .f32) (h : fn X0 X1 X2 L1 L2 L3 L4 X7 = fun _ => 1#1) :
    (∀ i, IsR (X0 i)) ∧ (∀ i, IsR (X1 i)) ∧ (∀ n h e, IsR (X2 (ix2 n (vcol h e))))
      ∧ (∀ i, IsR (L1 i)) ∧ (∀ i, IsR (L2 i)) ∧ (∀ i, IsR (L3 i)) ∧ (∀ i, IsR (L4 i)) := by
  have h := congrFun h ix0
  unfold fn fn_part1 fn_part2 at h
  obtain ⟨h, a6⟩ := and_split h
  obtain ⟨h, a5⟩ := and_split h
  obtain ⟨h, a4⟩ := and_split h
  obtain ⟨h, a3⟩ := and_split h
  obtain ⟨h, a2⟩ := and_split h
  obtain ⟨a0, a1⟩ := and_split h
  refine ⟨isR_of_all (s := S2x16640x1024) (fun i => X0 i) _ _ a0, isR_of_all (s := S16640x1024) (fun i => X1 i) _ _ a1, fun n h e => ?_,
    isR_of_all L1 _ _ a3, isR_of_all L2 _ _ a4, isR_of_all L3 _ _ a5, isR_of_all L4 _ _ a6⟩
  have hv := isR_of_all _ _ _ a2 (ix2 n (col h e))
  have hr := slice_at X2 n (col h e)
  have hc : (⟨4096 + (col h e).val, by have := (col h e).isLt; omega⟩ : Fin 6144) = vcol h e :=
    Fin.ext (by show 4096 + (h.val * 128 + e.val) = 4096 + h.val * 128 + e.val; omega)
  rw [hc] at hr
  rw [← hr]
  exact hv

end Cert.DiffAttnPre

end
-- ==== Proof.OutRef.lean ====
module

public import proofs.«01_k».proof.Proof.Gen.ReferenceOutIdeal.Run
public import Idealize.ShloMosaic.Lib.Pointwise

@[expose] public section

/-!
# The output projection: the formula, and the reference's result

Row `n` of the result is the residual's row plus the gate's row times the product of the two mixed branches with the
weights. The gate is row 0 of the modulation for the latent rows, row 1 for the context rows.
-/

set_option maxRecDepth 16384

noncomputable section

namespace Cert.OutProj

open Cert.ReferenceOutIdeal Cert.ReferenceOutIdeal.Gen Idealize.ShloMosaic Idealize.ShloMosaic.TcCoe Idealize.SL.Sem

section
variable (YA YB : FVec Ideal S16640x1024 .bf16) (X : FVec Ideal S16640x2048 .f32) (M : FVec Ideal S8x6144 .f32)
  (W : FVec Ideal S2048x2048 .f32)

/-- The two branches' product with the weights. -/
def prodAt (n : Fin 16640) (e : Fin 2048) : EReal :=
  (∑ k : Fin 1024, YA (ix2 n k) * W (ix2 ⟨k.val, by omega⟩ e)) + ∑ k : Fin 1024, YB (ix2 n k) * W (ix2 ⟨1024 + k.val, by omega⟩ e)

/-- The gate of a row. -/
def gateAt (n : Fin 16640) (e : Fin 2048) : EReal :=
  if n.val < 16384 then M (ix2 0 ⟨4096 + e.val, by omega⟩) else M (ix2 1 ⟨4096 + e.val, by omega⟩)

def outAt (n : Fin 16640) (e : Fin 2048) : EReal := X (ix2 n e) + gateAt M n e * prodAt YA YB W n e

/-- The result array. -/
def outArr : FVec Ideal S16640x2048 .f32 := fun j => outAt YA YB X M W (j 0) (j 1)

theorem outArr_at (j : S16640x2048.Idx) (n : Fin 16640) (e : Fin 2048) (h0 : (j 0).val = n.val) (h1 : (j 1).val = e.val) :
    outArr YA YB X M W j = outAt YA YB X M W n e := by
  have e0 : j 0 = n := Fin.ext h0
  have e1 : j 1 = e := Fin.ext h1
  unfold outArr
  rw [e0, e1]

/-! ## The reference, step by step -/

def prodT : FVec Ideal S16640x2048 .f32 :=
  Host.dotGeneral dot_S16640x2048_S2048x2048_S16640x2048_1_0_0_1_n_n none (extf .f32 (concatenate S16640x2048 1 [⟨S16640x1024, YA⟩, ⟨S16640x1024, YB⟩] concatenates_S16640x1024_S16640x1024_S16640x2048_d1) bitsLt_bf16_f32) W

/-- The latent rows and the context rows of an array. -/
def latRows (P : FVec Ideal S16640x2048 .f32) : FVec Ideal S16384x2048 .f32 :=
  extractStridedSlice S16384x2048 ![0, 0] P slices_S16640x2048_S16384x2048_0_0
def ctxRows (P : FVec Ideal S16640x2048 .f32) : FVec Ideal S256x2048 .f32 :=
  extractStridedSlice S256x2048 ![16384, 0] P slices_S16640x2048_S256x2048_16384_0

def latT (x p : FVec Ideal S16384x2048 .f32) : FVec Ideal S16384x2048 .f32 :=
  addf x (mulf (broadcastInDim S16384x2048 ![0, 1] bcast_S1x2048_S16384x2048_0_1 (broadcastInDim S1x2048 ![1] bcast_S2048_S1x2048_1 (shapeCast _ (extractStridedSlice S1x2048 ![0, 4096] M slices_S8x6144_S1x2048_0_4096) shapeCasts_S1x2048_S2048))) p)

def ctxT (x p : FVec Ideal S256x2048 .f32) : FVec Ideal S256x2048 .f32 :=
  addf x (mulf (broadcastInDim S256x2048 ![0, 1] bcast_S1x2048_S256x2048_0_1 (broadcastInDim S1x2048 ![1] bcast_S2048_S1x2048_1 (shapeCast _ (extractStridedSlice S1x2048 ![1, 4096] M slices_S8x6144_S1x2048_1_4096) shapeCasts_S1x2048_S2048))) p)

/-- The two streams, one below the other. -/
def stackT (a : FVec Ideal S16384x2048 .f32) (b : FVec Ideal S256x2048 .f32) : FVec Ideal S16640x2048 .f32 :=
  concatenate S16640x2048 0 [⟨S16384x2048, a⟩, ⟨S256x2048, b⟩] concatenates_S16384x2048_S256x2048_S16640x2048_d0

theorem prodT_at (n : Fin 16640) (e : Fin 2048) : prodT YA YB W (ix2 n e) = prodAt YA YB W n e := by
  pointwise [prodT, prodAt]

theorem latRows_at (P) (n : Fin 16384) (e : Fin 2048) : latRows P (ix2 n e) = P (ix2 ⟨n.val, by omega⟩ e) := by
  pointwise [latRows]

theorem ctxRows_at (P) (n : Fin 256) (e : Fin 2048) : ctxRows P (ix2 n e) = P (ix2 ⟨16384 + n.val, by omega⟩ e) := by
  pointwise [ctxRows]

theorem latT_at (x p) (n : Fin 16384) (e : Fin 2048) :
    latT M x p (ix2 n e) = x (ix2 n e) + M (ix2 0 ⟨4096 + e.val, by omega⟩) * p (ix2 n e) := by
  pointwise [latT]

theorem ctxT_at (x p) (n : Fin 256) (e : Fin 2048) :
    ctxT M x p (ix2 n e) = x (ix2 n e) + M (ix2 1 ⟨4096 + e.val, by omega⟩) * p (ix2 n e) := by
  pointwise [ctxT]

theorem stackT_at (a b) (n : Fin 16640) (e : Fin 2048) :
    stackT a b (ix2 n e)
      = if h : n.val < 16384 then a (ix2 ⟨n.val, h⟩ e) else b (ix2 ⟨n.val - 16384, by omega⟩ e) := by
  pointwise [stackT]

theorem ref_eq :
    stackT (latT M (latRows X) (latRows (prodT YA YB W))) (ctxT M (ctxRows X) (ctxRows (prodT YA YB W))) = outArr YA YB X M W := by
  funext j
  obtain ⟨n, e, rfl⟩ : ∃ (n : Fin 16640) (e : Fin 2048), j = ix2 n e := ⟨j 0, j 1, eq_ix2 j⟩
  show _ = outAt YA YB X M W n e
  rw [stackT_at]
  unfold outAt gateAt
  by_cases h : n.val < 16384
  · rw [dif_pos h, if_pos h, latT_at, latRows_at, latRows_at, prodT_at]
  · have hn : (⟨16384 + (n.val - 16384), by omega⟩ : Fin 16640) = n := Fin.ext (by show 16384 + (n.val - 16384) = n.val; omega)
    rw [dif_neg h, if_neg h, ctxT_at, ctxRows_at, ctxRows_at, prodT_at]
    simp only [hn]

end

/-- The reference's run, with its result named by the steps. -/
theorem refRun (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v19)
        = outArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_eq _ _ _ _ _), (h c).2⟩) (Cert.ReferenceOutIdeal.Value.run m ρ)

end Cert.OutProj

end
-- ==== Proof.RowMask.lean ====
module

public import Idealize.ShloMosaic.Lib.Pointwise
public import Idealize.ShloMosaic.Lib.WordCmp

@[expose] public section

/-! The kernels' test whether a row is of the latents, on 32-bit words, as a test on naturals. -/

noncomputable section

namespace Cert.RowMask

open Idealize.ShloMosaic

theorem select_lt (w : BitVec 32) (n : ℕ) (hn : n < 32768) (hw : w.toNat = n) (x y : EReal) :
    Scalar.select (IntOp.cmpi .slt w 16384#32) x y = if n < 16384 then x else y := by
  obtain rfl : w = BitVec.ofNat 32 n := by
    apply BitVec.eq_of_toNat_eq
    rw [hw, BitVec.toNat_ofNat]
    omega
  by_cases h : n < 16384
  · rw [if_pos h]
    exact WordCmp.select_of_eq_one ((WordCmp.cmpi_slt_ofNat_eq_one_iff (w := 32) (by norm_num; omega) (by norm_num)).2 h) x y
  · rw [if_neg h]
    exact WordCmp.select_of_eq_zero ((WordCmp.cmpi_slt_ofNat_eq_zero_iff (w := 32) (by norm_num; omega) (by norm_num)).2 h) x y

end Cert.RowMask

end
-- ==== Proof.OutKer.lean ====
module

public import proofs.«01_k».proof.Proof.Gen.KernelOutIdeal.Value
public import proofs.«01_k».proof.Proof.OutRef
public import proofs.«01_k».proof.Proof.RowMask
public import Idealize.ShloMosaic.Lib.Pipeline.ValueKit

@[expose] public section

/-!
# The output projection kernel's result array

Point `t` of the grid writes rows `640 t` to `640 t + 639`.
-/

set_option maxRecDepth 16384

noncomputable section

namespace Cert.OutProj

open Cert.KernelOutIdeal Cert.KernelOutIdeal.Gen Idealize.ShloMosaic Idealize.ShloMosaic.TcCoe Idealize.SL.Sem
open Idealize.ShloMosaic.Pipeline (Dat)

theorem pay_at (i : grid0.Coords) (v0 v1 v4 v5 v9 v10 v24) (r : Fin 640) (e : Fin 2048) :
    k0_pay1 (F := Ideal) i v0 v1 v4 v5 v9 v10 v24 (ix2 r e)
      = v24 (ix2 r e) + (if 640 * (i 0).val + r.val < 16384 then v9 (ix2 0 e) else v10 (ix2 0 e))
          * ((∑ k : Fin 1024, v0 (ix2 r k) * v1 (ix2 k e)) + ∑ k : Fin 1024, v4 (ix2 r k) * v5 (ix2 k e)) := by
  have hi : (i 0).val < 26 := (i 0).isLt
  pointwise [k0_pay1]
  rw [Cert.RowMask.select_lt _ (640 * (i 0).val + r.val) (by omega)]
  show ((BitVec.ofNat 32 (i 0).val) * 640#32 + BitVec.ofNat 32 r.val).toNat = _
  simp only [BitVec.toNat_add, BitVec.toNat_mul, BitVec.toNat_ofNat]
  omega

theorem out_at (i : grid0.Coords) (x0 x1 x2 x3 x4) (r : Fin 640) (e : Fin 2048) :
    out0_5 (F := Ideal) i x0 x1 x2 x3 x4 (ix2 r e)
      = x2 (ix2 r e) + (if 640 * (i 0).val + r.val < 16384 then x3 (ix2 0 ⟨4096 + e.val, by omega⟩) else x3 (ix2 1 ⟨4096 + e.val, by omega⟩))
          * ((∑ k : Fin 1024, x0 (ix2 r k) * x4 (ix2 ⟨k.val, by omega⟩ e)) + ∑ k : Fin 1024, x1 (ix2 r k) * x4 (ix2 ⟨1024 + k.val, by omega⟩ e)) := by
  frame_out
  rw [pay_at]
  pointwise

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0]
    ∧ (grid0.coords t 0).val = t.val ∧ t.val < 26 :=
  (by decide +kernel : ∀ t : Fin grid0.N, _)

/-- The array row of a point's row. -/
def rowAt (t : Fin cfg0.N) (r : Fin 640) : Fin 16640 := ⟨t.val * 640 + r.val, by have := (idx t).2.2.2.2.2.2.2; omega⟩

variable (m : (ℓ : Loc nD τ sig) → Buf (Elt Ideal) ℓ) (c : Dev nD)

/-- The argument arrays, typed. -/
abbrev YA : FVec Ideal S16640x1024 .bf16 := m ((c : Thread nD τ).loc main_arg0)
abbrev YB : FVec Ideal S16640x1024 .bf16 := m ((c : Thread nD τ).loc main_arg1)
abbrev X : FVec Ideal S16640x2048 .f32 := m ((c : Thread nD τ).loc main_arg2)
abbrev M : FVec Ideal S8x6144 .f32 := m ((c : Thread nD τ).loc main_arg3)
abbrev W : FVec Ideal S2048x2048 .f32 := m ((c : Thread nD τ).loc main_arg4)

section blocks
variable (t : Fin cfg0.N)

theorem blkA (r : Fin 640) (k : Fin 1024) :
    (show Vec Ideal S640x1024 .bf16 from iblk m c 0 t) (ix2 r k) = YA m c (ix2 (rowAt t r) k) := by
  blk_ext [iblk, V, idx t, rowAt]

theorem blkB (r : Fin 640) (k : Fin 1024) :
    (show Vec Ideal S640x1024 .bf16 from iblk m c 1 t) (ix2 r k) = YB m c (ix2 (rowAt t r) k) := by
  blk_ext [iblk, V, idx t, rowAt]

theorem blkX (r : Fin 640) (k : Fin 2048) :
    (show Vec Ideal S640x2048 .f32 from iblk m c 2 t) (ix2 r k) = X m c (ix2 (rowAt t r) k) := by
  blk_ext [iblk, V, idx t, rowAt]

theorem blkM : (show Vec Ideal S8x6144 .f32 from iblk m c 3 t) = M m c := by
  blk_ext! [iblk, V, idx t]

theorem blkW : (show Vec Ideal S2048x2048 .bf16 from iblk m c 4 t) = (show Vec Ideal S2048x2048 .bf16 from V m c main_v0) := by
  blk_ext! [iblk, idx t]

/-- The weights the kernel is passed are the argument's, rounded by the program; over the ideal numbers that is nothing. -/
theorem w_entry : (show Vec Ideal S2048x2048 .bf16 from V m c main_v0) = W m c := by
  entry_read
  rfl

end blocks

theorem point (t : Fin cfg0.N) (r : Fin 640) (e : Fin 2048) :
    (show Vec Ideal S640x2048 .f32 from out0_5 (grid0.coords t) (iblk m c 0 t) (iblk m c 1 t) (iblk m c 2 t) (iblk m c 3 t) (iblk m c 4 t)) (ix2 r e)
      = outAt (YA m c) (YB m c) (X m c) (M m c) (W m c) (rowAt t r) e := by
  refine (out_at (grid0.coords t) _ _ _ _ _ r e).trans ?_
  unfold outAt gateAt prodAt
  have hn : (640 * (grid0.coords t 0).val + r.val < 16384) ↔ (rowAt t r).val < 16384 := by
    rw [(idx t).2.2.2.2.2.2.1]
    show _ ↔ t.val * 640 + r.val < 16384
    omega
  simp only [hn]
  rw [← w_entry m c, ← blkW m c t, ← blkM m c t, ← blkX m c t r e]
  simp only [← blkA m c t, ← blkB m c t]

set_option maxHeartbeats 1000000 in
theorem final : (dats m 0 c).arrAt 5 cfg0.N = outArr (YA m c) (YB m c) (X m c) (M m c) (W m c) := by
  refine (dats m 0 c).arrAt_eq_of_covers 5 _ (by decide +kernel) fun t hf y => ?_
  blk_simp
  rw [after0_5]
  obtain ⟨r, e, rfl⟩ : ∃ (r : Fin 640) (e : Fin 2048), y = ix2 r e := ⟨y 0, y 1, eq_ix2 y⟩
  refine (point m c t r e).trans (outArr_at _ _ _ _ _ _ _ _ ?_ ?_).symm
  · blk_simp [idx t, rowAt]
  · blk_simp [idx t]

end Cert.OutProj

end
-- ==== Proof.InFormula.lean ====
module

public import proofs.«01_k».proof.Proof.Gen.KernelInIdeal.Skeleton
public import proofs.«01_k».proof.Proof.RowMask
public import Idealize.ShloMosaic.Lib.Pipeline.ValueKit

@[expose] public section

/-!
# The input projection: the formula

Row `n` of the result is the product of the modulated row with the weights. The modulated row is the row, normalised by its
root mean square, times the gain, times one plus the scale, plus the shift. The shift and the scale are the first and the
second third of the modulation's row 0 for the latent rows, of its row 1 for the context rows.
-/

set_option maxRecDepth 16384

noncomputable section

namespace Cert.InProj

open Cert.KernelInIdeal Cert.KernelInIdeal.Gen Idealize.ShloMosaic Idealize.ShloMosaic.TcCoe Idealize.SL.Sem

/-- The modulated row, from the row, the gain, the shift and the scale. -/
def modRow (x g sh sc : Fin 2048 → EReal) (d : Fin 2048) : EReal :=
  x d * Ideal.rsqrt (Ideal.div (∑ k : Fin 2048, x k * x k) (Ideal.ofBits FTy.f32 1157627904#32) + Ideal.ofBits FTy.f32 897988541#32)
    * g d * (1 + sc d) + sh d

section
variable (X : FVec Ideal S16640x2048 .f32) (G : FVec Ideal S2048 .f32) (M : FVec Ideal S8x6144 .f32)

/-- The modulated array. -/
def modAt (n : Fin 16640) (d : Fin 2048) : EReal :=
  modRow (fun k => X (ix2 n k)) (fun k => G (ix1 k))
    (fun k => if n.val < 16384 then M (ix2 0 ⟨k.val, by omega⟩) else M (ix2 1 ⟨k.val, by omega⟩))
    (fun k => if n.val < 16384 then M (ix2 0 ⟨2048 + k.val, by omega⟩) else M (ix2 1 ⟨2048 + k.val, by omega⟩)) d

/-- An entry of the result, from the weights' column. -/
def inAt (w : Fin 2048 → EReal) (n : Fin 16640) : EReal := ∑ k : Fin 2048, modAt X G M n k * w k

end

/-- What one trip of the kernel's loop stores, at an entry. -/
theorem pay_at (a : ℕ) (ha : a < 13) (t : Fin k0_t1_loop.trips) (v13 : Vec Ideal S64x2048 .f32) (v24 v35 v36 v44 v45 : Vec Ideal S1x2048 .f32) (r : Fin 64) (d : Fin 2048) :
    k0_pay1 (F := Ideal) (k0_pay3 v13 v24) (k0_pay5 (BitVec.ofNat 32 a) 0#32 1#32 t v35 v36) (k0_pay6 (BitVec.ofNat 32 a) 0#32 1#32 t) (k0_pay7 v44) (k0_pay8 v45) (ix2 r d)
      = modRow (fun k => v13 (ix2 r k)) (fun k => v24 (ix2 0 k))
          (fun k => if 1280 * a + (64 * t.val + r.val) < 16384 then v35 (ix2 0 k) else v36 (ix2 0 k))
          (fun k => if 1280 * a + (64 * t.val + r.val) < 16384 then v44 (ix2 0 k) else v45 (ix2 0 k)) d := by
  have ht : t.val < 20 := Nat.lt_of_lt_of_le t.isLt k0_t1_abs.2.1
  have hw : (IntOp.addi (Scalar.addi (Scalar.muli (BitVec.ofNat 32 a) 1280#32) (Scalar.muli (Scf.iv 0#32 1#32 t) 64#32)) (BitVec.ofNat 32 r.val)).toNat
      = 1280 * a + (64 * t.val + r.val) := by
    show (BitVec.ofNat 32 a * 1280#32 + (0#32 + BitVec.ofNat 32 t.val * 1#32) * 64#32 + BitVec.ofNat 32 r.val).toNat = _
    simp only [BitVec.toNat_add, BitVec.toNat_mul, BitVec.toNat_ofNat]
    omega
  pointwise [k0_pay1, k0_pay3, k0_pay4, k0_pay5, k0_pay6, k0_pay7, k0_pay8, modRow]
  rw [Cert.RowMask.select_lt _ _ (by omega) hw, Cert.RowMask.select_lt _ _ (by omega) hw]

/-- What a point stores into its output block, at an entry. -/
theorem prod_at (v3 : Vec Ideal S1280x2048 .bf16) (v4 : Vec Ideal S2048x1024 .bf16) (r : Fin 1280) (e : Fin 1024) :
    k0_pay2 (F := Ideal) v3 v4 (ix2 r e) = ∑ k : Fin 2048, v3 (ix2 r k) * v4 (ix2 k e) := by
  pointwise [k0_pay2]

theorem gain_at (g : FVec Ideal S2048 .f32) (k : Fin 2048) : shapeCast S1x2048 g shapeCasts_S2048_S1x2048 (ix2 0 k) = g (ix1 k) := by
  pointwise

/-! ## A row block's modulated rows -/

/-- The modulated rows of row block `a`, from the block's rows, the gain and the modulation. -/
def blkMod (a : ℕ) (x0 : Vec Ideal S1280x2048 .f32) (x1 : Vec Ideal S1x2048 .f32) (x2 : Vec Ideal S8x6144 .f32) : Vec Ideal S1280x2048 .bf16 :=
  fun y => modRow (fun k => x0 (ix2 (y 0) k)) (fun k => x1 (ix2 0 k))
    (fun k => if 1280 * a + (y 0).val < 16384 then x2 (ix2 0 ⟨k.val, by omega⟩) else x2 (ix2 1 ⟨k.val, by omega⟩))
    (fun k => if 1280 * a + (y 0).val < 16384 then x2 (ix2 0 ⟨2048 + k.val, by omega⟩) else x2 (ix2 1 ⟨2048 + k.val, by omega⟩)) (y 1)

theorem ld_row (x : Vec Ideal S8x6144 .f32) (o : Fin 8) (p : ℕ) (hp : p + 2048 ≤ 6144)
    (hb : ∀ a, (![o.val, p] : Fin 2 → ℕ) a + S1x2048.size a ≤ S8x6144.size a) (k : Fin 2048) :
    View.ld x (Rect.unit (s := S8x6144) ![o.val, p] S1x2048.size hb) (ix2 0 k) = x (ix2 o ⟨p + k.val, by omega⟩) := by
  refine View.ld_unit_apply_of x _ _ hb _ _ fun a => ?_
  match a with
  | ⟨0, _⟩ => rfl
  | ⟨1, _⟩ => rfl

/-- What a trip stores is its rows of the block's modulated rows. -/
theorem stored_at (a : ℕ) (ha : a < 13) (t : Fin k0_t1_loop.trips) (x0 : Vec Ideal S1280x2048 .f32) (x1 : Vec Ideal S1x2048 .f32) (x2 : Vec Ideal S8x6144 .f32)
    (hb : ∀ a, k0_off1 t a + S64x2048.size a ≤ S1280x2048.size a)
    (h1 : ∀ a, (![0, 0] : Fin 2 → ℕ) a + S1x2048.size a ≤ S1x2048.size a)
    (h5 : ∀ a, (![0, 0] : Fin 2 → ℕ) a + S1x2048.size a ≤ S8x6144.size a)
    (h6 : ∀ a, (![1, 0] : Fin 2 → ℕ) a + S1x2048.size a ≤ S8x6144.size a)
    (h7 : ∀ a, (![0, 2048] : Fin 2 → ℕ) a + S1x2048.size a ≤ S8x6144.size a)
    (h8 : ∀ a, (![1, 2048] : Fin 2 → ℕ) a + S1x2048.size a ≤ S8x6144.size a)
    (y : S64x2048.Idx) (j : S1280x2048.Idx) (hj : ∀ a, (j a).val = k0_off1 t a + (y a).val) :
    k0_pay1 (F := Ideal)
        (k0_pay3 (View.ld x0 (Rect.unit (s := S1280x2048) (k0_off1 t) S64x2048.size hb)) (View.ld x1 (Rect.unit (s := S1x2048) ![0, 0] S1x2048.size h1)))
        (k0_pay5 (BitVec.ofNat 32 a) 0#32 1#32 t (View.ld x2 (Rect.unit (s := S8x6144) ![0, 0] S1x2048.size h5)) (View.ld x2 (Rect.unit (s := S8x6144) ![1, 0] S1x2048.size h6)))
        (k0_pay6 (BitVec.ofNat 32 a) 0#32 1#32 t)
        (k0_pay7 (View.ld x2 (Rect.unit (s := S8x6144) ![0, 2048] S1x2048.size h7)))
        (k0_pay8 (View.ld x2 (Rect.unit (s := S8x6144) ![1, 2048] S1x2048.size h8))) y
      = blkMod a x0 x1 x2 j := by
  obtain ⟨r, d, rfl⟩ : ∃ (r : Fin 64) (d : Fin 2048), y = ix2 r d := ⟨y 0, y 1, eq_ix2 y⟩
  have e0 : k0_off1 t 0 = 64 * t.val := congrFun (k0_off1_eq t) 0
  have e1 : k0_off1 t 1 = 0 := congrFun (k0_off1_eq t) 1
  have j0 : (j 0).val = 64 * t.val + r.val := (hj 0).trans (congrArg (· + r.val) e0)
  have j1 : j 1 = d := Fin.ext ((hj 1).trans ((congrArg (· + d.val) e1).trans (Nat.zero_add _)))
  have hx : ∀ k : Fin 2048, View.ld x0 (Rect.unit (s := S1280x2048) (k0_off1 t) S64x2048.size hb) (ix2 r k) = x0 (ix2 (j 0) k) := fun k =>
    View.ld_unit_apply_of x0 _ _ hb _ _ fun a => by
      match a with
      | ⟨0, _⟩ => exact j0.trans (congrArg (· + r.val) e0.symm)
      | ⟨1, _⟩ => exact ((congrArg (· + k.val) e1).trans (Nat.zero_add _)).symm
  have hg : ∀ k : Fin 2048, View.ld x1 (Rect.unit (s := S1x2048) ![0, 0] S1x2048.size h1) (ix2 0 k) = x1 (ix2 0 k) := fun k =>
    View.ld_unit_apply_of x1 _ _ h1 _ _ fun a => by
      match a with
      | ⟨0, _⟩ => rfl
      | ⟨1, _⟩ => exact (Nat.zero_add _).symm
  have m5 := ld_row x2 0 0 (by omega) h5
  have m6 := ld_row x2 1 0 (by omega) h6
  have m7 := ld_row x2 0 2048 (by omega) h7
  have m8 := ld_row x2 1 2048 (by omega) h8
  simp only [Nat.zero_add] at m5 m6
  refine (pay_at a ha t _ _ _ _ _ _ r d).trans ?_
  simp only [hx, hg]
  unfold blkMod
  rw [j0, j1]
  congr 1
  · funext k
    exact congrArg₂ (fun u v => if 1280 * a + (64 * t.val + r.val) < 16384 then u else v) (m5 k) (m6 k)
  · funext k
    exact congrArg₂ (fun u v => if 1280 * a + (64 * t.val + r.val) < 16384 then u else v) (m7 k) (m8 k)

/-- The block's modulated rows are the array's. -/
theorem blkMod_at (a : ℕ) (x0 : Vec Ideal S1280x2048 .f32) (x1 : Vec Ideal S1x2048 .f32) (x2 : Vec Ideal S8x6144 .f32)
    (X : FVec Ideal S16640x2048 .f32) (G : FVec Ideal S2048 .f32) (r : Fin 1280) (n : Fin 16640) (hn : n.val = 1280 * a + r.val)
    (hx : ∀ k, x0 (ix2 r k) = X (ix2 n k)) (hg : ∀ k, x1 (ix2 0 k) = G (ix1 k)) (d : Fin 2048) :
    blkMod a x0 x1 x2 (ix2 r d) = modAt X G x2 n d := by
  unfold modAt
  simp only [← hx, ← hg, hn]
  rfl

end Cert.InProj

end
-- ==== Proof.InRef.lean ====
module

public import proofs.«01_k».proof.Proof.Gen.ReferenceInIdeal.Run
public import proofs.«01_k».proof.Proof.InFormula
public import Idealize.ShloMosaic.Lib.Pointwise

@[expose] public section

/-!
# The input projection: the reference's result, step by step
-/

set_option maxRecDepth 16384

noncomputable section

namespace Cert.InProj

open Cert.ReferenceInIdeal Cert.ReferenceInIdeal.Gen Idealize.ShloMosaic Idealize.ShloMosaic.TcCoe Idealize.SL.Sem

section
variable (X : FVec Ideal S16640x2048 .f32) (G : FVec Ideal S2048 .f32) (M : FVec Ideal S8x6144 .f32) (W : FVec Ideal S2048x7168 .f32)

/-- The result array. -/
def inArr : FVec Ideal S16640x7168 .bf16 := fun j => inAt X G M (fun k => W (ix2 k (j 1))) (j 0)

theorem inArr_at (j : S16640x7168.Idx) (n : Fin 16640) (e : Fin 7168) (h0 : (j 0).val = n.val) (h1 : (j 1).val = e.val) :
    inArr X G M W j = inAt X G M (fun k => W (ix2 k e)) n := by
  have e0 : j 0 = n := Fin.ext h0
  have e1 : j 1 = e := Fin.ext h1
  unfold inArr
  rw [e0, e1]

/-! ## The steps both widths share -/

/-- The latent rows and the context rows of the stream. -/
def latX : FVec Ideal S16384x2048 .f32 := extractStridedSlice S16384x2048 ![0, 0] X slices_S16640x2048_S16384x2048_0_0
def ctxX : FVec Ideal S256x2048 .f32 := extractStridedSlice S256x2048 ![16384, 0] X slices_S16640x2048_S256x2048_16384_0

/-- A third of a row of the modulation. -/
def shiftL : FVec Ideal S2048 .f32 := shapeCast _ (extractStridedSlice S1x2048 ![0, 0] M slices_S8x6144_S1x2048_0_0) shapeCasts_S1x2048_S2048
def scaleL : FVec Ideal S2048 .f32 := shapeCast _ (extractStridedSlice S1x2048 ![0, 2048] M slices_S8x6144_S1x2048_0_2048) shapeCasts_S1x2048_S2048
def shiftC : FVec Ideal S2048 .f32 := shapeCast _ (extractStridedSlice S1x2048 ![1, 0] M slices_S8x6144_S1x2048_1_0) shapeCasts_S1x2048_S2048
def scaleC : FVec Ideal S2048 .f32 := shapeCast _ (extractStridedSlice S1x2048 ![1, 2048] M slices_S8x6144_S1x2048_1_2048) shapeCasts_S1x2048_S2048

/-- The modulated latent rows. -/
def modL (x : FVec Ideal S16384x2048 .f32) (sh sc : FVec Ideal S2048 .f32) : FVec Ideal S16384x2048 .f32 :=
  addf (mulf (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 G))) (broadcastInDim S16384x2048 ![0, 1] bcast_S1x2048_S16384x2048_0_1 (broadcastInDim S1x2048 ![1] bcast_S2048_S1x2048_1 (addf (broadcastInDim S2048 ![] bcast_S_S2048 (constant S_ .f32 0x3F800000#32)) sc)))) (broadcastInDim S16384x2048 ![0, 1] bcast_S1x2048_S16384x2048_0_1 (broadcastInDim S1x2048 ![1] bcast_S2048_S1x2048_1 sh))

/-- The modulated context rows. -/
def modC (x : FVec Ideal S256x2048 .f32) (sh sc : FVec Ideal S2048 .f32) : FVec Ideal S256x2048 .f32 :=
  addf (mulf (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 G))) (broadcastInDim S256x2048 ![0, 1] bcast_S1x2048_S256x2048_0_1 (broadcastInDim S1x2048 ![1] bcast_S2048_S1x2048_1 (addf (broadcastInDim S2048 ![] bcast_S_S2048 (constant S_ .f32 0x3F800000#32)) sc)))) (broadcastInDim S256x2048 ![0, 1] bcast_S1x2048_S256x2048_0_1 (broadcastInDim S1x2048 ![1] bcast_S2048_S1x2048_1 sh))

theorem latX_at (n : Fin 16384) (k : Fin 2048) : latX X (ix2 n k) = X (ix2 ⟨n.val, by omega⟩ k) := by pointwise [latX]
theorem ctxX_at (n : Fin 256) (k : Fin 2048) : ctxX X (ix2 n k) = X (ix2 ⟨16384 + n.val, by omega⟩ k) := by pointwise [ctxX]
theorem shiftL_at (k : Fin 2048) : shiftL M (ix1 k) = M (ix2 0 ⟨k.val, by omega⟩) := by pointwise [shiftL]
theorem scaleL_at (k : Fin 2048) : scaleL M (ix1 k) = M (ix2 0 ⟨2048 + k.val, by omega⟩) := by pointwise [scaleL]
theorem shiftC_at (k : Fin 2048) : shiftC M (ix1 k) = M (ix2 1 ⟨k.val, by omega⟩) := by pointwise [shiftC]
theorem scaleC_at (k : Fin 2048) : scaleC M (ix1 k) = M (ix2 1 ⟨2048 + k.val, by omega⟩) := by pointwise [scaleC]

theorem modL_at (x) (sh sc) (n : Fin 16384) (d : Fin 2048) :
    modL G x sh sc (ix2 n d) = modRow (fun k => x (ix2 n k)) (fun k => G (ix1 k)) (fun k => sh (ix1 k)) (fun k => sc (ix1 k)) d := by
  pointwise [modL, modRow]

theorem modC_at (x) (sh sc) (n : Fin 256) (d : Fin 2048) :
    modC G x sh sc (ix2 n d) = modRow (fun k => x (ix2 n k)) (fun k => G (ix1 k)) (fun k => sh (ix1 k)) (fun k => sc (ix1 k)) d := by
  pointwise [modC, modRow]

/-- The two streams' modulated rows are the array's. -/
theorem modL_eq (n : Fin 16640) (h : n.val < 16384) (d : Fin 2048) :
    modL G (latX X) (shiftL M) (scaleL M) (ix2 ⟨n.val, h⟩ d) = modAt X G M n d := by
  rw [modL_at]
  unfold modAt
  simp only [latX_at, shiftL_at, scaleL_at, if_pos h]

theorem modC_eq (n : Fin 16640) (h : ¬n.val < 16384) (d : Fin 2048) :
    modC G (ctxX X) (shiftC M) (scaleC M) (ix2 ⟨n.val - 16384, by omega⟩ d) = modAt X G M n d := by
  have hn : (⟨16384 + (n.val - 16384), by omega⟩ : Fin 16640) = n := Fin.ext (by show 16384 + (n.val - 16384) = n.val; omega)
  rw [modC_at]
  unfold modAt
  simp only [ctxX_at, shiftC_at, scaleC_at, if_neg h, hn]

/-! ## The products -/

def prodL (a : FVec Ideal S16384x2048 .f32) : FVec Ideal S16384x7168 .f32 :=
  Host.dotGeneral dot_S16384x2048_S2048x7168_S16384x7168_1_0_0_1_n_n none a W
def prodC (a : FVec Ideal S256x2048 .f32) : FVec Ideal S256x7168 .f32 :=
  Host.dotGeneral dot_S256x2048_S2048x7168_S256x7168_1_0_0_1_n_n none a W

/-- The two streams, one below the other. -/
def stackT (a : FVec Ideal S16384x7168 .f32) (b : FVec Ideal S256x7168 .f32) : FVec Ideal S16640x7168 .bf16 :=
  truncf .bf16 (concatenate S16640x7168 0 [⟨S16384x7168, a⟩, ⟨S256x7168, b⟩] concatenates_S16384x7168_S256x7168_S16640x7168_d0) bitsLt_bf16_f32

theorem prodL_at (a) (n : Fin 16384) (e : Fin 7168) : prodL W a (ix2 n e) = ∑ k : Fin 2048, a (ix2 n k) * W (ix2 k e) := by
  pointwise [prodL]
theorem prodC_at (a) (n : Fin 256) (e : Fin 7168) : prodC W a (ix2 n e) = ∑ k : Fin 2048, a (ix2 n k) * W (ix2 k e) := by
  pointwise [prodC]
theorem stackT_at (a b) (n : Fin 16640) (e : Fin 7168) :
    stackT a b (ix2 n e) = if h : n.val < 16384 then a (ix2 ⟨n.val, h⟩ e) else b (ix2 ⟨n.val - 16384, by omega⟩ e) := by
  pointwise [stackT]

theorem ref_eq :
    stackT (prodL W (modL G (latX X) (shiftL M) (scaleL M))) (prodC W (modC G (ctxX X) (shiftC M) (scaleC M))) = inArr X G M W := by
  funext j
  obtain ⟨n, e, rfl⟩ : ∃ (n : Fin 16640) (e : Fin 7168), j = ix2 n e := ⟨j 0, j 1, eq_ix2 j⟩
  show _ = inAt X G M (fun k => W (ix2 k e)) n
  rw [stackT_at]
  unfold inAt
  by_cases h : n.val < 16384
  · rw [dif_pos h, prodL_at]
    simp only [modL_eq X G M n h]
  · rw [dif_neg h, prodC_at]
    simp only [modC_eq X G M n h]

end

/-- The reference's run, with its result named by the steps. -/
theorem refRun (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v55)
        = inArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _), (h c).2⟩) (Cert.ReferenceInIdeal.Value.run m ρ)

end Cert.InProj

end
-- ==== Proof.InKer.lean ====
module

public import proofs.«01_k».proof.Proof.Gen.KernelInIdeal.Value
public import proofs.«01_k».proof.Proof.InRef
public import Idealize.ShloMosaic.Lib.Pipeline.ValueKit

@[expose] public section

/-!
# The input projection kernel's result array
-/

set_option maxRecDepth 16384

noncomputable section

namespace Cert.InProj

open Cert.KernelInIdeal Cert.KernelInIdeal.Gen Idealize.ShloMosaic Idealize.ShloMosaic.TcCoe Idealize.SL.Sem
open Idealize.ShloMosaic.Pipeline (Dat)

theorem trips_eq : k0_t1_loop.trips = 20 := by decide

section
variable (c : Dev nD) (i : grid0.Coords)
    (a2 : Memref sig .tc .vmem S1280x2048 .f32) (h2 : a2.IsWhole)
    (a3 : Memref sig .tc .vmem S1x2048 .f32) (h3 : a3.IsWhole)
    (a4 : Memref sig .tc .vmem S8x6144 .f32) (h4 : a4.IsWhole)
    (a5 : Memref sig .tc .vmem S2048x1024 .bf16) (h5 : a5.IsWhole)
    (a6 : Memref sig .tc .vmem S1280x1024 .bf16) (h6 : a6.IsWhole)
    (a7 : Memref sig .tc .vmem S1280x2048 .bf16) (h7 : a7.IsWhole) (hc0 : cond0_0 i)
    (x0 : Vec Ideal S1280x2048 .f32) (x1 : Vec Ideal S1x2048 .f32) (x2 : Vec Ideal S8x6144 .f32) (x3 : Vec Ideal S2048x1024 .bf16)

/-- What a trip of the first column's loop stores. -/
theorem trip_stores (k : Fin k0_t1_loop.trips) :
    ∀ p ∈ tripL_k0_t1 (F := Ideal) Variants.none c none i a2 h2 a3 h3 a4 h4 a5 h5 a6 h6 a7 h7 (BitVec.ofNat 32 (i 0).val) hc0 (h2.unread x0) (h3.unread x1) (h4.unread x2) k,
      ∀ y, p.2 y = blkMod (i 0).val x0 x1 x2 (p.1.emb y) := by
  unfold tripL_k0_t1 trip_k0_t1
  dsimp only
  unfold trip_k0_t1.sl.r trip_k0_t1.sl.r_1 trip_k0_t1.sl.r_2 trip_k0_t1.sl.r_3 trip_k0_t1.sl.r_4
  simp only [View.readAt_eq_ld, h2.read_unread, h3.read_unread, h4.read_unread]
  intro p hp y
  rw [List.mem_singleton] at hp
  subst hp
  exact stored_at (i 0).val (i 0).isLt k x0 x1 x2 _ _ _ _ _ _ y _ fun a => Rect.idx_unit_val (s := S1280x2048) (k0_off1 k) S64x2048.size (k0_off1_inb i k hc0) y a

/-- The loop stores the block's modulated rows. -/
theorem loop_stores (n : ℕ) (hn : n ≤ 20) :
    ∀ p ∈ pb_k0_t1 (F := Ideal) Variants.none c none i a2 h2 a3 h3 a4 h4 a5 h5 a6 h6 a7 h7 (BitVec.ofNat 32 (i 0).val) hc0 (h2.unread x0) (h3.unread x1) (h4.unread x2) n,
      ∀ y, p.2 y = blkMod (i 0).val x0 x1 x2 (p.1.emb y) := by
  induction n with
  | zero => exact fun p hp => absurd hp (List.not_mem_nil (a := p))
  | succ n ih =>
    intro p hp
    rw [pb_k0_t1_succ (F := Ideal) Variants.none c none i a2 h2 a3 h3 a4 h4 a5 h5 a6 h6 a7 h7 (BitVec.ofNat 32 (i 0).val) hc0
      (h2.unread x0) (h3.unread x1) (h4.unread x2) ⟨n, trips_eq ▸ hn⟩, List.mem_append] at hp
    rcases hp with hp | hp
    · exact trip_stores c i a2 h2 a3 h3 a4 h4 a5 h5 a6 h6 a7 h7 hc0 x0 x1 x2 _ p hp
    · exact ih (by omega) p hp

/-- What the first column's point leaves in the scratch. -/
theorem scratch_opened : sout0_A_0 (F := Ideal) c i a2 h2 a3 h3 a4 h4 a5 h5 a6 h6 a7 h7 hc0 x0 x1 x2 x3 = blkMod (i 0).val x0 x1 x2 := by
  unfold sout0_A_0
  rw [View.read_writes_junk_eq_canon]
  funext y
  exact View.canon_apply_of_pieces _ _ (loop_stores c i a2 h2 a3 h3 a4 h4 a5 h5 a6 h6 a7 h7 hc0 x0 x1 x2 20 (le_refl _)) y
    (scover0_A_0 c i a2 h2 a3 h3 a4 h4 a5 h5 a6 h6 a7 h7 hc0 x0 x1 x2 x3 y)

theorem outA_opened : out0_A_4 (F := Ideal) c i a2 h2 a3 h3 a4 h4 a5 h5 a6 h6 a7 h7 hc0 x0 x1 x2 x3 = k0_pay2 (blkMod (i 0).val x0 x1 x2) x3 := by
  rw [← scratch_opened c i a2 h2 a3 h3 a4 h4 a5 h5 a6 h6 a7 h7 hc0 x0 x1 x2 x3]
  frame_out
  rw [View.readCov_eq_canon']
  congr 1
  funext y
  refine congrArg _ (funext fun a => Fin.ext ((Rect.idx_unit_val _ _ _ y a).trans ?_))
  match a with
  | ⟨0, _⟩ => exact Nat.zero_add _
  | ⟨1, _⟩ => exact Nat.zero_add _

theorem outB_opened (hb0 : ¬cond0_0 i) (xs0 : Vec Ideal S1280x2048 .bf16) :
    out0_B_4 (F := Ideal) c i a2 h2 a3 h3 a4 h4 a5 h5 a6 h6 a7 h7 hb0 x0 x1 x2 x3 xs0 = k0_pay2 xs0 x3 := by
  frame_out

theorem scratchB_opened (hb0 : ¬cond0_0 i) (xs0 : Vec Ideal S1280x2048 .bf16) :
    sout0_B_0 (F := Ideal) c i a2 h2 a3 h3 a4 h4 a5 h5 a6 h6 a7 h7 hb0 x0 x1 x2 x3 xs0 = xs0 := by
  unfold sout0_B_0
  rfl

end

/-! ## The array -/

theorem idx : ∀ t : Fin cfg0.N, win0_0.index t = ![t.val / 7, 0] ∧ win0_1.index t = ![0, 0] ∧ win0_2.index t = ![0, 0]
    ∧ win0_3.index t = ![0, t.val % 7] ∧ win0_4.index t = ![t.val / 7, t.val % 7]
    ∧ (grid0.coords t 0).val = t.val / 7 ∧ t.val < 91 :=
  (by decide +kernel : ∀ t : Fin grid0.N, _)

/-- The array row of a point's row. -/
def rowAt (t : Fin cfg0.N) (r : Fin 1280) : Fin 16640 := ⟨t.val / 7 * 1280 + r.val, by have := (idx t).2.2.2.2.2.2; omega⟩
/-- The array column of a point's column. -/
def colAt (t : Fin cfg0.N) (e : Fin 1024) : Fin 7168 := ⟨t.val % 7 * 1024 + e.val, by omega⟩

variable (m : (ℓ : Loc nD τ sig) → Buf (Elt Ideal) ℓ) (c : Dev nD)

/-- The argument arrays, typed. -/
abbrev X : FVec Ideal S16640x2048 .f32 := m ((c : Thread nD τ).loc main_arg0)
abbrev G : FVec Ideal S2048 .f32 := m ((c : Thread nD τ).loc main_arg1)
abbrev M : FVec Ideal S8x6144 .f32 := m ((c : Thread nD τ).loc main_arg2)
abbrev W : FVec Ideal S2048x7168 .f32 := m ((c : Thread nD τ).loc main_arg3)

/-- The weights the kernel is passed are the argument's, rounded by the program; over the ideal numbers that is nothing. -/
theorem w_entry : (show Vec Ideal S2048x7168 .bf16 from V m c main_v0) = W m c := by
  entry_read
  rfl

theorem g_entry : (show Vec Ideal S1x2048 .f32 from V m c main_v1) = shapeCast S1x2048 (G m c) shapeCasts_S2048_S1x2048 := by
  entry_read
  rfl

section blocks
variable (t : Fin cfg0.N)

theorem blkX (r : Fin 1280) (k : Fin 2048) :
    (show Vec Ideal S1280x2048 .f32 from iblk m c 0 t) (ix2 r k) = X m c (ix2 (rowAt t r) k) := by
  blk_ext [iblk, V, idx t, rowAt]

theorem blkG (k : Fin 2048) : (show Vec Ideal S1x2048 .f32 from iblk m c 1 t) (ix2 0 k) = G m c (ix1 k) := by
  have h : (show Vec Ideal S1x2048 .f32 from iblk m c 1 t) = (show Vec Ideal S1x2048 .f32 from V m c main_v1) := by
    blk_ext! [iblk, idx t]
  rw [h, g_entry, gain_at]

theorem blkM : (show Vec Ideal S8x6144 .f32 from iblk m c 2 t) = M m c := by
  blk_ext! [iblk, V, idx t]

theorem blkW (k : Fin 2048) (e : Fin 1024) :
    (show Vec Ideal S2048x1024 .bf16 from iblk m c 3 t) (ix2 k e) = W m c (ix2 k (colAt t e)) := by
  rw [← w_entry]
  blk_ext [iblk, idx t, colAt]

end blocks

theorem scratch_first (t : Fin cfg0.N) (h0 : t.val % 7 = 0) (r : Fin 1280) (d : Fin 2048) :
    (outsAt0 m c t.val t.isLt).2 (ix2 r d) = modAt (X m c) (G m c) (M m c) (rowAt t r) d := by
  have e := (congrArg Prod.snd (outsAt0_A m c t h0)).trans (scratch_opened c _ _ _ _ _ _ _ _ _ _ _ _ _ _ _ _ _ _)
  refine (congrFun e (ix2 r d)).trans ?_
  rw [← blkM m c t]
  exact blkMod_at _ _ _ _ _ _ r (rowAt t r) (by rw [(idx t).2.2.2.2.2.1]; show t.val / 7 * 1280 + r.val = _; omega) (blkX m c t r) (blkG m c t) d

theorem scratch_next (t : Fin cfg0.N) (h0 : ¬t.val % 7 = 0) (hlt : t.val - 1 < cfg0.N) :
    (outsAt0 m c t.val t.isLt).2 = (outsAt0 m c (t.val - 1) hlt).2 := by
  rw [outsAt0_B m c t h0]
  dsimp only
  rw [scratchB_opened]

/-- The scratch after any point holds its row block's modulated rows. -/
theorem scratch_at (n : ℕ) : ∀ t : Fin cfg0.N, t.val = n → ∀ (r : Fin 1280) (d : Fin 2048),
    (outsAt0 m c t.val t.isLt).2 (ix2 r d) = modAt (X m c) (G m c) (M m c) (rowAt t r) d := by
  induction n with
  | zero => exact fun t ht r d => scratch_first m c t (by omega) r d
  | succ n ih =>
    intro t ht r d
    by_cases h0 : t.val % 7 = 0
    · exact scratch_first m c t h0 r d
    · have hlt : t.val - 1 < cfg0.N := Nat.lt_of_le_of_lt (Nat.sub_le _ _) t.isLt
      have e : rowAt t r = rowAt ⟨t.val - 1, hlt⟩ r := Fin.ext (by
        show t.val / 7 * 1280 + r.val = (t.val - 1) / 7 * 1280 + r.val
        omega)
      rw [scratch_next m c t h0 hlt, e]
      exact ih ⟨t.val - 1, hlt⟩ (by show t.val - 1 = n; omega) r d

/-- Every point's output block is the product of the scratch it leaves with its block of the weights. -/
theorem block_eq (t : Fin cfg0.N) :
    (outsAt0 m c t.val t.isLt).1 = k0_pay2 (F := Ideal) (outsAt0 m c t.val t.isLt).2 (show Vec Ideal S2048x1024 .bf16 from iblk m c 3 t) := by
  by_cases h0 : t.val % 7 = 0
  · rw [outsAt0_A m c t h0]
    dsimp only
    rw [outA_opened, scratch_opened]
  · rw [scratch_next m c t h0 (Nat.lt_of_le_of_lt (Nat.sub_le _ _) t.isLt), outsAt0_B m c t h0]
    dsimp only
    rw [outB_opened]

theorem point (t : Fin cfg0.N) (r : Fin 1280) (e : Fin 1024) :
    (outsAt0 m c t.val t.isLt).1 (ix2 r e) = inAt (X m c) (G m c) (M m c) (fun k => W m c (ix2 k (colAt t e))) (rowAt t r) := by
  rw [block_eq m c t]
  refine (prod_at _ _ r e).trans ?_
  unfold inAt
  exact Finset.sum_congr rfl fun k _ => congrArg₂ (· * ·) (scratch_at m c t.val t rfl r k) (blkW m c t k e)

theorem final : (dats m 0 c).arrAt 4 cfg0.N = inArr (X m c) (G m c) (M m c) (W m c) := by
  refine (dats m 0 c).arrAt_eq_of_covers 4 _ (by decide +kernel) fun t hf y => ?_
  blk_simp
  rw [after0_4]
  obtain ⟨r, e, rfl⟩ : ∃ (r : Fin 1280) (e : Fin 1024), y = ix2 r e := ⟨y 0, y 1, eq_ix2 y⟩
  refine (point m c t r e).trans (inArr_at _ _ _ _ _ _ _ ?_ ?_).symm
  · blk_simp [idx t, rowAt]
  · blk_simp [idx t, colAt]

end Cert.InProj

end
-- ==== Proof.InOddRef.lean ====
module

public import proofs.«01_k».proof.Proof.Gen.ReferenceInOddIdeal.Run
public import proofs.«01_k».proof.Proof.InRef
public import Idealize.ShloMosaic.Lib.Pointwise

@[expose] public section

/-!
# The odd layers' input projection: the reference's result, step by step
-/

set_option maxRecDepth 16384

noncomputable section

namespace Cert.InOdd

open Cert.ReferenceInOddIdeal Cert.ReferenceInOddIdeal.Gen Idealize.ShloMosaic Idealize.ShloMosaic.TcCoe Idealize.SL.Sem
open Cert.InProj (modAt inAt latX ctxX shiftL scaleL shiftC scaleC modL modC modL_eq modC_eq)

section
variable (X : FVec Ideal S16640x2048 .f32) (G : FVec Ideal S2048 .f32) (M : FVec Ideal S8x6144 .f32) (W : FVec Ideal S2048x6144 .f32)

/-- The result array. -/
def inArr : FVec Ideal S16640x6144 .bf16 := fun j => inAt X G M (fun k => W (ix2 k (j 1))) (j 0)

theorem inArr_at (j : S16640x6144.Idx) (n : Fin 16640) (e : Fin 6144) (h0 : (j 0).val = n.val) (h1 : (j 1).val = e.val) :
    inArr X G M W j = inAt X G M (fun k => W (ix2 k e)) n := by
  have e0 : j 0 = n := Fin.ext h0
  have e1 : j 1 = e := Fin.ext h1
  unfold inArr
  rw [e0, e1]

/-! ## The products -/

def prodL (a : FVec Ideal S16384x2048 .f32) : FVec Ideal S16384x6144 .f32 :=
  Host.dotGeneral dot_S16384x2048_S2048x6144_S16384x6144_1_0_0_1_n_n none a W
def prodC (a : FVec Ideal S256x2048 .f32) : FVec Ideal S256x6144 .f32 :=
  Host.dotGeneral dot_S256x2048_S2048x6144_S256x6144_1_0_0_1_n_n none a W

/-- The two streams, one below the other. -/
def stackT (a : FVec Ideal S16384x6144 .f32) (b : FVec Ideal S256x6144 .f32) : FVec Ideal S16640x6144 .bf16 :=
  truncf .bf16 (concatenate S16640x6144 0 [⟨S16384x6144, a⟩, ⟨S256x6144, b⟩] concatenates_S16384x6144_S256x6144_S16640x6144_d0) bitsLt_bf16_f32

theorem prodL_at (a) (n : Fin 16384) (e : Fin 6144) : prodL W a (ix2 n e) = ∑ k : Fin 2048, a (ix2 n k) * W (ix2 k e) := by
  pointwise [prodL]
theorem prodC_at (a) (n : Fin 256) (e : Fin 6144) : prodC W a (ix2 n e) = ∑ k : Fin 2048, a (ix2 n k) * W (ix2 k e) := by
  pointwise [prodC]
theorem stackT_at (a b) (n : Fin 16640) (e : Fin 6144) :
    stackT a b (ix2 n e) = if h : n.val < 16384 then a (ix2 ⟨n.val, h⟩ e) else b (ix2 ⟨n.val - 16384, by omega⟩ e) := by
  pointwise [stackT]

theorem ref_eq :
    stackT (prodL W (modL G (latX X) (shiftL M) (scaleL M))) (prodC W (modC G (ctxX X) (shiftC M) (scaleC M))) = inArr X G M W := by
  funext j
  obtain ⟨n, e, rfl⟩ : ∃ (n : Fin 16640) (e : Fin 6144), j = ix2 n e := ⟨j 0, j 1, eq_ix2 j⟩
  show _ = inAt X G M (fun k => W (ix2 k e)) n
  rw [stackT_at]
  unfold inAt
  by_cases h : n.val < 16384
  · rw [dif_pos h, prodL_at]
    simp only [modL_eq X G M n h]
  · rw [dif_neg h, prodC_at]
    simp only [modC_eq X G M n h]

end

/-- The reference's run, with its result named by the steps. -/
theorem refRun (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v55)
        = inArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _), (h c).2⟩) (Cert.ReferenceInOddIdeal.Value.run m ρ)

end Cert.InOdd

end
-- ==== Proof.InOddKer.lean ====
module

public import proofs.«01_k».proof.Proof.Gen.KernelInOddIdeal.Value
public import proofs.«01_k».proof.Proof.InOddRef
public import Idealize.ShloMosaic.Lib.Pipeline.ValueKit

@[expose] public section

/-!
# The odd layers' input projection kernel's result array

The same kernel with 6 column blocks; what a trip stores and the formula are those of the even layers' one.
-/

set_option maxRecDepth 16384

noncomputable section

namespace Cert.InOdd

open Cert.KernelInOddIdeal Cert.KernelInOddIdeal.Gen Idealize.ShloMosaic Idealize.ShloMosaic.TcCoe Idealize.SL.Sem
open Idealize.ShloMosaic.Pipeline (Dat)
open Cert.InProj (modAt inAt blkMod stored_at blkMod_at prod_at gain_at)

theorem trips_eq : k0_t1_loop.trips = 20 := by decide

section
variable (c : Dev nD) (i : grid0.Coords)
    (a2 : Memref sig .tc .vmem S1280x2048 .f32) (h2 : a2.IsWhole)
    (a3 : Memref sig .tc .vmem S1x2048 .f32) (h3 : a3.IsWhole)
    (a4 : Memref sig .tc .vmem S8x6144 .f32) (h4 : a4.IsWhole)
    (a5 : Memref sig .tc .vmem S2048x1024 .bf16) (h5 : a5.IsWhole)
    (a6 : Memref sig .tc .vmem S1280x1024 .bf16) (h6 : a6.IsWhole)
    (a7 : Memref sig .tc .vmem S1280x2048 .bf16) (h7 : a7.IsWhole) (hc0 : cond0_0 i)
    (x0 : Vec Ideal S1280x2048 .f32) (x1 : Vec Ideal S1x2048 .f32) (x2 : Vec Ideal S8x6144 .f32) (x3 : Vec Ideal S2048x1024 .bf16)

/-- What a trip of the first column's loop stores. -/
theorem trip_stores (k : Fin k0_t1_loop.trips) :
    ∀ p ∈ tripL_k0_t1 (F := Ideal) Variants.none c none i a2 h2 a3 h3 a4 h4 a5 h5 a6 h6 a7 h7 (BitVec.ofNat 32 (i 0).val) hc0 (h2.unread x0) (h3.unread x1) (h4.unread x2) k,
      ∀ y, p.2 y = blkMod (i 0).val x0 x1 x2 (p.1.emb y) := by
  unfold tripL_k0_t1 trip_k0_t1
  dsimp only
  unfold trip_k0_t1.sl.r trip_k0_t1.sl.r_1 trip_k0_t1.sl.r_2 trip_k0_t1.sl.r_3 trip_k0_t1.sl.r_4
  simp only [View.readAt_eq_ld, h2.read_unread, h3.read_unread, h4.read_unread]
  intro p hp y
  rw [List.mem_singleton] at hp
  subst hp
  exact stored_at (i 0).val (i 0).isLt k x0 x1 x2 _ _ _ _ _ _ y _ fun a => Rect.idx_unit_val (s := S1280x2048) (k0_off1 k) S64x2048.size (k0_off1_inb i k hc0) y a

/-- The loop stores the block's modulated rows. -/
theorem loop_stores (n : ℕ) (hn : n ≤ 20) :
    ∀ p ∈ pb_k0_t1 (F := Ideal) Variants.none c none i a2 h2 a3 h3 a4 h4 a5 h5 a6 h6 a7 h7 (BitVec.ofNat 32 (i 0).val) hc0 (h2.unread x0) (h3.unread x1) (h4.unread x2) n,
      ∀ y, p.2 y = blkMod (i 0).val x0 x1 x2 (p.1.emb y) := by
  induction n with
  | zero => exact fun p hp => absurd hp (List.not_mem_nil (a := p))
  | succ n ih =>
    intro p hp
    rw [pb_k0_t1_succ (F := Ideal) Variants.none c none i a2 h2 a3 h3 a4 h4 a5 h5 a6 h6 a7 h7 (BitVec.ofNat 32 (i 0).val) hc0
      (h2.unread x0) (h3.unread x1) (h4.unread x2) ⟨n, trips_eq ▸ hn⟩, List.mem_append] at hp
    rcases hp with hp | hp
    · exact trip_stores c i a2 h2 a3 h3 a4 h4 a5 h5 a6 h6 a7 h7 hc0 x0 x1 x2 _ p hp
    · exact ih (by omega) p hp

/-- What the first column's point leaves in the scratch. -/
theorem scratch_opened : sout0_A_0 (F := Ideal) c i a2 h2 a3 h3 a4 h4 a5 h5 a6 h6 a7 h7 hc0 x0 x1 x2 x3 = blkMod (i 0).val x0 x1 x2 := by
  unfold sout0_A_0
  rw [View.read_writes_junk_eq_canon]
  funext y
  exact View.canon_apply_of_pieces _ _ (loop_stores c i a2 h2 a3 h3 a4 h4 a5 h5 a6 h6 a7 h7 hc0 x0 x1 x2 20 (le_refl _)) y
    (scover0_A_0 c i a2 h2 a3 h3 a4 h4 a5 h5 a6 h6 a7 h7 hc0 x0 x1 x2 x3 y)

theorem outA_opened : out0_A_4 (F := Ideal) c i a2 h2 a3 h3 a4 h4 a5 h5 a6 h6 a7 h7 hc0 x0 x1 x2 x3 = k0_pay2 (blkMod (i 0).val x0 x1 x2) x3 := by
  rw [← scratch_opened c i a2 h2 a3 h3 a4 h4 a5 h5 a6 h6 a7 h7 hc0 x0 x1 x2 x3]
  frame_out
  rw [View.readCov_eq_canon']
  congr 1
  funext y
  refine congrArg _ (funext fun a => Fin.ext ((Rect.idx_unit_val _ _ _ y a).trans ?_))
  match a with
  | ⟨0, _⟩ => exact Nat.zero_add _
  | ⟨1, _⟩ => exact Nat.zero_add _

theorem outB_opened (hb0 : ¬cond0_0 i) (xs0 : Vec Ideal S1280x2048 .bf16) :
    out0_B_4 (F := Ideal) c i a2 h2 a3 h3 a4 h4 a5 h5 a6 h6 a7 h7 hb0 x0 x1 x2 x3 xs0 = k0_pay2 xs0 x3 := by
  frame_out

theorem scratchB_opened (hb0 : ¬cond0_0 i) (xs0 : Vec Ideal S1280x2048 .bf16) :
    sout0_B_0 (F := Ideal) c i a2 h2 a3 h3 a4 h4 a5 h5 a6 h6 a7 h7 hb0 x0 x1 x2 x3 xs0 = xs0 := by
  unfold sout0_B_0
  rfl

end

/-! ## The array -/

theorem idx : ∀ t : Fin cfg0.N, win0_0.index t = ![t.val / 6, 0] ∧ win0_1.index t = ![0, 0] ∧ win0_2.index t = ![0, 0]
    ∧ win0_3.index t = ![0, t.val % 6] ∧ win0_4.index t = ![t.val / 6, t.val % 6]
    ∧ (grid0.coords t 0).val = t.val / 6 ∧ t.val < 78 :=
  (by decide +kernel : ∀ t : Fin grid0.N, _)

/-- The array row of a point's row. -/
def rowAt (t : Fin cfg0.N) (r : Fin 1280) : Fin 16640 := ⟨t.val / 6 * 1280 + r.val, by have := (idx t).2.2.2.2.2.2; omega⟩
/-- The array column of a point's column. -/
def colAt (t : Fin cfg0.N) (e : Fin 1024) : Fin 6144 := ⟨t.val % 6 * 1024 + e.val, by omega⟩

variable (m : (ℓ : Loc nD τ sig) → Buf (Elt Ideal) ℓ) (c : Dev nD)

/-- The argument arrays, typed. -/
abbrev X : FVec Ideal S16640x2048 .f32 := m ((c : Thread nD τ).loc main_arg0)
abbrev G : FVec Ideal S2048 .f32 := m ((c : Thread nD τ).loc main_arg1)
abbrev M : FVec Ideal S8x6144 .f32 := m ((c : Thread nD τ).loc main_arg2)
abbrev W : FVec Ideal S2048x6144 .f32 := m ((c : Thread nD τ).loc main_arg3)

/-- The weights the kernel is passed are the argument's, rounded by the program; over the ideal numbers that is nothing. -/
theorem w_entry : (show Vec Ideal S2048x6144 .bf16 from V m c main_v0) = W m c := by
  entry_read
  rfl

theorem g_entry : (show Vec Ideal S1x2048 .f32 from V m c main_v1) = shapeCast S1x2048 (G m c) shapeCasts_S2048_S1x2048 := by
  entry_read
  rfl

section blocks
variable (t : Fin cfg0.N)

theorem blkX (r : Fin 1280) (k : Fin 2048) :
    (show Vec Ideal S1280x2048 .f32 from iblk m c 0 t) (ix2 r k) = X m c (ix2 (rowAt t r) k) := by
  blk_ext [iblk, V, idx t, rowAt]

theorem blkG (k : Fin 2048) : (show Vec Ideal S1x2048 .f32 from iblk m c 1 t) (ix2 0 k) = G m c (ix1 k) := by
  have h : (show Vec Ideal S1x2048 .f32 from iblk m c 1 t) = (show Vec Ideal S1x2048 .f32 from V m c main_v1) := by
    blk_ext! [iblk, idx t]
  rw [h, g_entry]
  exact gain_at _ k

theorem blkM : (show Vec Ideal S8x6144 .f32 from iblk m c 2 t) = M m c := by
  blk_ext! [iblk, V, idx t]

theorem blkW (k : Fin 2048) (e : Fin 1024) :
    (show Vec Ideal S2048x1024 .bf16 from iblk m c 3 t) (ix2 k e) = W m c (ix2 k (colAt t e)) := by
  rw [← w_entry]
  blk_ext [iblk, idx t, colAt]

end blocks

theorem scratch_first (t : Fin cfg0.N) (h0 : t.val % 6 = 0) (r : Fin 1280) (d : Fin 2048) :
    (outsAt0 m c t.val t.isLt).2 (ix2 r d) = modAt (X m c) (G m c) (M m c) (rowAt t r) d := by
  have e := (congrArg Prod.snd (outsAt0_A m c t h0)).trans (scratch_opened c _ _ _ _ _ _ _ _ _ _ _ _ _ _ _ _ _ _)
  refine (congrFun e (ix2 r d)).trans ?_
  rw [← blkM m c t]
  exact blkMod_at _ _ _ _ _ _ r (rowAt t r) (by rw [(idx t).2.2.2.2.2.1]; show t.val / 6 * 1280 + r.val = _; omega) (blkX m c t r) (blkG m c t) d

theorem scratch_next (t : Fin cfg0.N) (h0 : ¬t.val % 6 = 0) (hlt : t.val - 1 < cfg0.N) :
    (outsAt0 m c t.val t.isLt).2 = (outsAt0 m c (t.val - 1) hlt).2 := by
  rw [outsAt0_B m c t h0]
  dsimp only
  rw [scratchB_opened]

/-- The scratch after any point holds its row block's modulated rows. -/
theorem scratch_at (n : ℕ) : ∀ t : Fin cfg0.N, t.val = n → ∀ (r : Fin 1280) (d : Fin 2048),
    (outsAt0 m c t.val t.isLt).2 (ix2 r d) = modAt (X m c) (G m c) (M m c) (rowAt t r) d := by
  induction n with
  | zero => exact fun t ht r d => scratch_first m c t (by omega) r d
  | succ n ih =>
    intro t ht r d
    by_cases h0 : t.val % 6 = 0
    · exact scratch_first m c t h0 r d
    · have hlt : t.val - 1 < cfg0.N := Nat.lt_of_le_of_lt (Nat.sub_le _ _) t.isLt
      have e : rowAt t r = rowAt ⟨t.val - 1, hlt⟩ r := Fin.ext (by
        show t.val / 6 * 1280 + r.val = (t.val - 1) / 6 * 1280 + r.val
        omega)
      rw [scratch_next m c t h0 hlt, e]
      exact ih ⟨t.val - 1, hlt⟩ (by show t.val - 1 = n; omega) r d

/-- Every point's output block is the product of the scratch it leaves with its block of the weights. -/
theorem block_eq (t : Fin cfg0.N) :
    (outsAt0 m c t.val t.isLt).1 = k0_pay2 (F := Ideal) (outsAt0 m c t.val t.isLt).2 (show Vec Ideal S2048x1024 .bf16 from iblk m c 3 t) := by
  by_cases h0 : t.val % 6 = 0
  · rw [outsAt0_A m c t h0]
    dsimp only
    rw [outA_opened, scratch_opened]
  · rw [scratch_next m c t h0 (Nat.lt_of_le_of_lt (Nat.sub_le _ _) t.isLt), outsAt0_B m c t h0]
    dsimp only
    rw [outB_opened]

theorem point (t : Fin cfg0.N) (r : Fin 1280) (e : Fin 1024) :
    (outsAt0 m c t.val t.isLt).1 (ix2 r e) = inAt (X m c) (G m c) (M m c) (fun k => W m c (ix2 k (colAt t e))) (rowAt t r) := by
  rw [block_eq m c t]
  refine (prod_at _ _ r e).trans ?_
  unfold inAt
  exact Finset.sum_congr rfl fun k _ => congrArg₂ (· * ·) (scratch_at m c t.val t rfl r k) (blkW m c t k e)

theorem final : (dats m 0 c).arrAt 4 cfg0.N = inArr (X m c) (G m c) (M m c) (W m c) := by
  refine (dats m 0 c).arrAt_eq_of_covers 4 _ (by decide +kernel) fun t hf y => ?_
  blk_simp
  rw [after0_4]
  obtain ⟨r, e, rfl⟩ : ∃ (r : Fin 1280) (e : Fin 1024), y = ix2 r e := ⟨y 0, y 1, eq_ix2 y⟩
  refine (point m c t r e).trans (inArr_at _ _ _ _ _ _ _ ?_ ?_).symm
  · blk_simp [idx t, rowAt]
  · blk_simp [idx t, colAt]

end Cert.InOdd

end
-- ==== Proof.AdaRef.lean ====
module

public import proofs.«01_k».proof.Proof.Gen.ReferenceAdaIdeal.Run
public import Idealize.ShloMosaic.Lib.Pointwise

@[expose] public section

/-!
# The modulation: the formula, and the reference's result

Layer `l`'s row `b` is SiLU of the conditioning vector `b` times the layer's weights, plus the layer's bias.
-/

set_option maxRecDepth 16384

noncomputable section

namespace Cert.Ada

open Cert.ReferenceAdaIdeal Cert.ReferenceAdaIdeal.Gen Idealize.ShloMosaic Idealize.ShloMosaic.TcCoe Idealize.SL.Sem

section
variable (C : FVec Ideal S8x2048 .f32) (W : FVec Ideal S2x2048x6144 .f32) (B : FVec Ideal S2x6144 .f32)

/-- SiLU of a number. -/
def silu (x : EReal) : EReal := x * Ideal.div 1 (1 + Ideal.exp (-x))

def modAt (l : Fin 2) (b : Fin 8) (e : Fin 6144) : EReal :=
  (∑ k : Fin 2048, silu (C (ix2 b k)) * W (ix3 l k e)) + B (ix2 l e)

/-- The result array. -/
def modArr : FVec Ideal S2x8x6144 .f32 := fun j => modAt C W B (j 0) (j 1) (j 2)

theorem modArr_at (j : S2x8x6144.Idx) (l : Fin 2) (b : Fin 8) (e : Fin 6144)
    (h0 : (j 0).val = l.val) (h1 : (j 1).val = b.val) (h2 : (j 2).val = e.val) : modArr C W B j = modAt C W B l b e := by
  have e0 : j 0 = l := Fin.ext h0
  have e1 : j 1 = b := Fin.ext h1
  have e2 : j 2 = e := Fin.ext h2
  unfold modArr
  rw [e0, e1, e2]

/-! ## The reference, step by step -/

def siluT : FVec Ideal S8x2048 .f32 :=
  mulf C (Host.divf (broadcastInDim S8x2048 ![] bcast_S_S8x2048 (constant S_ .f32 0x3F800000#32)) (addf (broadcastInDim S8x2048 ![] bcast_S_S8x2048 (constant S_ .f32 0x3F800000#32)) (Host.exp (Host.negf C))))

/-- One layer's rows, from its weights and its bias. -/
def layerT (s : FVec Ideal S8x2048 .f32) (w : FVec Ideal S1x2048x6144 .f32) (b : FVec Ideal S1x6144 .f32) : FVec Ideal S1x8x6144 .f32 :=
  broadcastInDim S1x8x6144 ![1, 2] bcast_S8x6144_S1x8x6144_1_2 (addf (Host.dotGeneral dot_S8x2048_S2048x6144_S8x6144_1_0_0_1_n_n none s (shapeCast _ w shapeCasts_S1x2048x6144_S2048x6144)) (broadcastInDim S8x6144 ![0, 1] bcast_S1x6144_S8x6144_0_1 (broadcastInDim S1x6144 ![1] bcast_S6144_S1x6144_1 (shapeCast _ b shapeCasts_S1x6144_S6144))))

/-- The two layers. -/
def bothT (x y : FVec Ideal S1x8x6144 .f32) : FVec Ideal S2x8x6144 .f32 :=
  concatenate S2x8x6144 0 [⟨S1x8x6144, x⟩, ⟨S1x8x6144, y⟩] concatenates_S1x8x6144_S1x8x6144_S2x8x6144_d0

theorem siluT_at (b : Fin 8) (k : Fin 2048) : siluT C (ix2 b k) = silu (C (ix2 b k)) := by
  pointwise [siluT, silu]

theorem layerT_at (s w v) (b : Fin 8) (e : Fin 6144) :
    layerT s w v (ix3 0 b e) = (∑ k : Fin 2048, s (ix2 b k) * w (ix3 0 k e)) + v (ix2 0 e) := by
  pointwise [layerT]

theorem bothT_at (x y) (b : Fin 8) (e : Fin 6144) :
    bothT x y (ix3 0 b e) = x (ix3 0 b e) ∧ bothT x y (ix3 1 b e) = y (ix3 0 b e) := by
  constructor
  · pointwise [bothT]
  · pointwise [bothT]

theorem ref_eq :
    bothT (layerT (siluT C) (extractStridedSlice S1x2048x6144 ![0, 0, 0] W slices_S2x2048x6144_S1x2048x6144_0_0_0) (extractStridedSlice S1x6144 ![0, 0] B slices_S2x6144_S1x6144_0_0))
      (layerT (siluT C) (extractStridedSlice S1x2048x6144 ![1, 0, 0] W slices_S2x2048x6144_S1x2048x6144_1_0_0) (extractStridedSlice S1x6144 ![1, 0] B slices_S2x6144_S1x6144_1_0))
      = modArr C W B := by
  funext j
  obtain ⟨l, b, e, rfl⟩ : ∃ (l : Fin 2) (b : Fin 8) (e : Fin 6144), j = ix3 l b e := ⟨j 0, j 1, j 2, eq_ix3 j⟩
  show _ = modAt C W B l b e
  unfold modAt
  match l with
  | 0 =>
    refine (bothT_at _ _ b e).1.trans ?_
    rw [layerT_at]
    simp only [siluT_at]
    pointwise
  | 1 =>
    refine (bothT_at _ _ b e).2.trans ?_
    rw [layerT_at]
    simp only [siluT_at]
    pointwise

end

/-- The reference's run, with its result named by the steps. -/
theorem refRun (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v20)
        = modArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Cert.ReferenceAdaIdeal.Value.run m ρ)

end Cert.Ada

end
-- ==== Proof.AdaKer.lean ====
module

public import proofs.«01_k».proof.Proof.Gen.KernelAdaIdeal.Value
public import proofs.«01_k».proof.Proof.AdaRef
public import Idealize.ShloMosaic.Lib.Pipeline.ValueKit

@[expose] public section

/-!
# The modulation kernel's result array

Point `t` of the grid writes columns `1536 (t % 4)` to `1536 (t % 4) + 1535` of layer `t / 4`.
-/

set_option maxRecDepth 16384

noncomputable section

namespace Cert.Ada

open Cert.KernelAdaIdeal Cert.KernelAdaIdeal.Gen Idealize.ShloMosaic Idealize.ShloMosaic.TcCoe Idealize.SL.Sem
open Idealize.ShloMosaic.Pipeline (Dat)

theorem out_at (x0 x1 x2) (b : Fin 8) (e : Fin 1536) :
    out0_3 (F := Ideal) x0 x1 x2 (ix3 0 b e)
      = (∑ k : Fin 2048, silu (x0 (ix2 b k)) * x1 (ix3 0 k e)) + x2 (ix3 0 0 e) := by
  frame_out
  simp only [silu, ← zero_sub]
  pointwise [k0_pay1]

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val < 8 :=
  (by decide +kernel : ∀ t : Fin grid0.N, _)

/-- The layer of a point, and the array column of a point's column. -/
def layerOf (t : Fin cfg0.N) : Fin 2 := ⟨t.val / 4, by have := (idx t).2.2.2.2; omega⟩
def colAt (t : Fin cfg0.N) (e : Fin 1536) : Fin 6144 := ⟨t.val % 4 * 1536 + e.val, by omega⟩

variable (m : (ℓ : Loc nD τ sig) → Buf (Elt Ideal) ℓ) (c : Dev nD)

/-- The argument arrays, typed. -/
abbrev C : FVec Ideal S8x2048 .f32 := m ((c : Thread nD τ).loc main_arg0)
abbrev W : FVec Ideal S2x2048x6144 .f32 := m ((c : Thread nD τ).loc main_arg1)
abbrev B : FVec Ideal S2x6144 .f32 := m ((c : Thread nD τ).loc main_arg2)

theorem b_entry (l : Fin 2) (e : Fin 6144) : (show Vec Ideal S2x1x6144 .f32 from V m c main_v0) (ix3 l 0 e) = B m c (ix2 l e) := by
  entry_read
  pointwise

section blocks
variable (t : Fin cfg0.N)

theorem blkC : (show Vec Ideal S8x2048 .f32 from iblk m c 0 t) = C m c := by
  blk_ext! [iblk, V, idx t]

theorem blkW (k : Fin 2048) (e : Fin 1536) :
    (show Vec Ideal S1x2048x1536 .f32 from iblk m c 1 t) (ix3 0 k e) = W m c (ix3 (layerOf t) k (colAt t e)) := by
  blk_ext [iblk, V, idx t, layerOf, colAt]

theorem blkB (e : Fin 1536) :
    (show Vec Ideal S1x1x1536 .f32 from iblk m c 2 t) (ix3 0 0 e)
      = (show Vec Ideal S2x1x6144 .f32 from V m c main_v0) (ix3 (layerOf t) 0 (colAt t e)) := by
  blk_ext [iblk, idx t, layerOf, colAt]

end blocks

theorem point (t : Fin cfg0.N) (b : Fin 8) (e : Fin 1536) :
    (show Vec Ideal S1x8x1536 .f32 from out0_3 (iblk m c 0 t) (iblk m c 1 t) (iblk m c 2 t)) (ix3 0 b e)
      = modAt (C m c) (W m c) (B m c) (layerOf t) b (colAt t e) := by
  refine (out_at _ _ _ b e).trans ?_
  unfold modAt
  rw [← b_entry m c, ← blkB m c t, ← blkC m c t]
  simp only [← blkW m c t]

theorem final : (dats m 0 c).arrAt 3 cfg0.N = modArr (C m c) (W m c) (B m c) := by
  refine (dats m 0 c).arrAt_eq_of_covers 3 _ (by decide +kernel) fun t hf y => ?_
  blk_simp
  rw [after0_3]
  obtain ⟨b, e, rfl⟩ : ∃ (b : Fin 8) (e : Fin 1536), y = ix3 0 b e :=
    ⟨y 1, y 2, (eq_ix3 y).trans (by rw [Fin.fin_one_eq_zero (y 0)])⟩
  refine (point m c t b e).trans (modArr_at _ _ _ _ _ _ _ ?_ ?_ ?_).symm
  · blk_simp [idx t]
    exact Nat.add_zero _
  · blk_simp [idx t]
  · blk_simp [idx t, colAt]

end Cert.Ada

end
-- ==== Proof.ConvFormula.lean ====
module

public import proofs.«01_k».proof.ReferenceConvIdeal
public import Idealize.ShloMosaic.Lib.Pointwise

@[expose] public section

/-!
# The convolution module's formula

Each row is the layer norm of a sum of 31 shifted products over the row's own stream, through SiLU, times the SiLU of
the gate. The rows before and after a stream count as zero.
-/

set_option maxRecDepth 16384

noncomputable section

namespace Cert.Conv

open Cert.ReferenceConvIdeal Idealize.ShloMosaic Idealize.ShloMosaic.TcCoe Idealize.SL.Sem

/-- The logistic function, and SiLU. -/
def lgs (x : EReal) : EReal := Ideal.div 1 (1 + Ideal.exp (-x))
def silu (x : EReal) : EReal := x * lgs x

/-- The first `k + 1` products, summed in order. -/
def acc (w s : Fin 31 → EReal) : (k : ℕ) → k < 31 → EReal
  | 0, h => w ⟨0, h⟩ * s ⟨0, h⟩
  | k + 1, h => acc w s k (Nat.lt_of_succ_lt h) + w ⟨k + 1, h⟩ * s ⟨k + 1, h⟩

/-- A column of the layer norm over 1024 columns, with its gain and its bias. -/
def normAt (y : Fin 1024 → EReal) (g b : EReal) (e : Fin 1024) : EReal :=
  (y e - Ideal.div (∑ x : Fin 1024, y x) (Ideal.ofBits FTy.f32 1149239296#32))
    * Ideal.rsqrt (Ideal.div (∑ x' : Fin 1024, (y x' - Ideal.div (∑ x : Fin 1024, y x) (Ideal.ofBits FTy.f32 1149239296#32))
          * (y x' - Ideal.div (∑ x : Fin 1024, y x) (Ideal.ofBits FTy.f32 1149239296#32))) (Ideal.ofBits FTy.f32 1149239296#32)
        + Ideal.ofBits FTy.f32 897988541#32)
    * g + b

/-- Row `m - 15` belongs to the stream of row `n`. -/
def inStream (n m : ℕ) : Prop := (n < 16384 ∧ 15 ≤ m ∧ m < 16399) ∨ (16384 ≤ n ∧ 16399 ≤ m ∧ m < 16655)

instance (n m : ℕ) : Decidable (inStream n m) := by unfold inStream; infer_instance

theorem inStream_lt {n m : ℕ} (h : inStream n m) : m - 15 < 16640 := by unfold inStream at h; omega

section
variable (Z : FVec Ideal S16640x7168 .bf16) (W : FVec Ideal S31x1024 .f32) (B G L : FVec Ideal S1024 .f32)

/-- The gated linear unit. -/
def gluAt (n : Fin 16640) (e : Fin 1024) : EReal :=
  Z (ix2 n ⟨4096 + e.val, by omega⟩) * lgs (Z (ix2 n ⟨5120 + e.val, by omega⟩))

/-- Row `n + k - 15` of the gated linear unit, or zero outside the stream of row `n`. -/
def shAt (n : Fin 16640) (k : Fin 31) (e : Fin 1024) : EReal :=
  if h : inStream n.val (n.val + k.val) then gluAt Z ⟨n.val + k.val - 15, inStream_lt h⟩ e else 0

def convAt (n : Fin 16640) (e : Fin 1024) : EReal :=
  acc (fun k => W (ix2 k e)) (fun k => shAt Z n k e) 30 (by omega) + B (ix1 e)

def resAt (n : Fin 16640) (e : Fin 1024) : EReal :=
  silu (normAt (convAt Z W B n) (G (ix1 e)) (L (ix1 e)) e) * silu (Z (ix2 n ⟨6144 + e.val, by omega⟩))

/-- The result array. -/
def resArr : FVec Ideal S16640x1024 .bf16 := fun j => resAt Z W B G L (j 0) (j 1)

theorem resArr_at (j : S16640x1024.Idx) (n : Fin 16640) (e : Fin 1024) (h0 : (j 0).val = n.val) (h1 : (j 1).val = e.val) :
    resArr Z W B G L j = resAt Z W B G L n e := by
  have e0 : j 0 = n := Fin.ext h0
  have e1 : j 1 = e := Fin.ext h1
  unfold resArr
  rw [e0, e1]

end

end Cert.Conv

end
-- ==== Proof.ConvPay.lean ====
module

public import proofs.«01_k».proof.Proof.Gen.KernelConvIdeal.Value
public import proofs.«01_k».proof.Proof.ConvFormula
public import Idealize.ShloMosaic.Lib.Pipeline.ValueKit
public import Idealize.ShloMosaic.Lib.Ring

@[expose] public section

/-!
# What one grid point of the convolution kernel writes

The scratch rows are the gated linear unit of the rows before the tile, of the tile and of the rows after it; the 31
shifted products are summed over them, normalised, and gated.
-/

set_option maxRecDepth 16384

noncomputable section

namespace Cert.Conv

open Cert.KernelConvIdeal Cert.KernelConvIdeal.Gen Idealize.ShloMosaic Idealize.ShloMosaic.TcCoe Idealize.SL.Sem
open Idealize.ShloMosaic.Pipeline (Dat)

/-- The scratch: 16 rows, 256 rows, 16 rows. -/
def scr (A : FVec Ideal S16x1024 .f32) (M : FVec Ideal S256x1024 .f32) (E : FVec Ideal S16x1024 .f32) : FVec Ideal S288x1024 .f32 :=
  fun j => if h : (j 0).val < 16 then A (ix2 ⟨(j 0).val, h⟩ (j 1))
    else if h' : (j 0).val < 272 then M (ix2 ⟨(j 0).val - 16, by omega⟩ (j 1))
    else E (ix2 ⟨(j 0).val - 272, by have : (j 0).val < 288 := (j 0).isLt; omega⟩ (j 1))

section
variable (A : FVec Ideal S16x1024 .f32) (M : FVec Ideal S256x1024 .f32) (E : FVec Ideal S16x1024 .f32) (j : S288x1024.Idx)

theorem scr_A (x : S16x1024.Idx) (h0 : (j 0).val = (x 0).val) (h1 : (j 1).val = (x 1).val) : scr A M E j = A x := by
  have q : (x 0).val < 16 := (x 0).isLt
  unfold scr
  rw [dif_pos (by omega)]
  exact congrArg A ((eq_ix2 x).trans (congrArg₂ ix2 (Fin.ext h0.symm) (Fin.ext h1.symm))).symm

theorem scr_M (x : S256x1024.Idx) (h0 : (j 0).val = (x 0).val + 16) (h1 : (j 1).val = (x 1).val) : scr A M E j = M x := by
  have q : (x 0).val < 256 := (x 0).isLt
  unfold scr
  rw [dif_neg (by omega), dif_pos (by omega)]
  exact congrArg M ((eq_ix2 x).trans (congrArg₂ ix2 (Fin.ext (by show (x 0).val = (j 0).val - 16; omega)) (Fin.ext h1.symm))).symm

theorem scr_E (x : S16x1024.Idx) (h0 : (j 0).val = (x 0).val + 272) (h1 : (j 1).val = (x 1).val) : scr A M E j = E x := by
  unfold scr
  rw [dif_neg (by omega), dif_neg (by omega)]
  exact congrArg E ((eq_ix2 x).trans (congrArg₂ ix2 (Fin.ext (by show (x 0).val = (j 0).val - 272; omega)) (Fin.ext h1.symm))).symm

end

theorem canon_scr (A : FVec Ideal S16x1024 .f32) (M : FVec Ideal S256x1024 .f32) (E : FVec Ideal S16x1024 .f32) :
    View.canon (Val := Elt Ideal) (s := S288x1024) (e := .f32) [⟨Rect.unit ![272, 0] ![16, 1024] inb_S288x1024_S16x1024_272_0, E⟩,
      ⟨Rect.unit ![16, 0] ![256, 1024] inb_S288x1024_S256x1024_16_0, M⟩,
      ⟨Rect.unit ![0, 0] ![16, 1024] inb_S288x1024_S16x1024_0_0, A⟩] = scr A M E := by
  funext y
  refine View.canon_apply_of_pieces (Val := Elt Ideal) (S := S288x1024) (e := .f32) (scr A M E) _ (fun p hp x => ?_) y ?_
  · simp only [List.mem_cons, List.not_mem_nil, or_false] at hp
    rcases hp with rfl | rfl | rfl
    · refine (scr_E A M E _ x ?_ ?_).symm
      · show 272 + 1 * (x 0).val = _; omega
      · show 0 + 1 * (x 1).val = _; omega
    · refine (scr_M A M E _ x ?_ ?_).symm
      · show 16 + 1 * (x 0).val = _; omega
      · show 0 + 1 * (x 1).val = _; omega
    · refine (scr_A A M E _ x ?_ ?_).symm
      · show 0 + 1 * (x 0).val = _; omega
      · show 0 + 1 * (x 1).val = _; omega
  · have h0 : (y 0).val < 288 := (y 0).isLt
    have h1 : (y 1).val < 1024 := (y 1).isLt
    by_cases q : (y 0).val < 16
    · refine ⟨_, .tail _ (.tail _ (.head _)), (Rect.mem_set_unit (inb := inb_S288x1024_S16x1024_0_0)).2 fun a => ?_⟩
      match a with
      | ⟨0, _⟩ => exact ⟨Nat.zero_le _, by show (y 0).val < 0 + 16; omega⟩
      | ⟨1, _⟩ => exact ⟨Nat.zero_le _, by show (y 1).val < 0 + 1024; omega⟩
    · by_cases q' : (y 0).val < 272
      · refine ⟨_, .tail _ (.head _), (Rect.mem_set_unit (inb := inb_S288x1024_S256x1024_16_0)).2 fun a => ?_⟩
        match a with
        | ⟨0, _⟩ => exact ⟨by show 16 ≤ (y 0).val; omega, by show (y 0).val < 16 + 256; omega⟩
        | ⟨1, _⟩ => exact ⟨Nat.zero_le _, by show (y 1).val < 0 + 1024; omega⟩
      · refine ⟨_, .head _, (Rect.mem_set_unit (inb := inb_S288x1024_S16x1024_272_0)).2 fun a => ?_⟩
        match a with
        | ⟨0, _⟩ => exact ⟨by show 272 ≤ (y 0).val; omega, by show (y 0).val < 272 + 16; omega⟩
        | ⟨1, _⟩ => exact ⟨Nat.zero_le _, by show (y 1).val < 0 + 1024; omega⟩

/-- A load from a box of a buffer wholly written since. -/
theorem readCov_eq_ld {sig : RefSig} {κ} {sp} {s : Shape} {e : EltTy} (v : View sig κ sp s e)
    (L : List (View.Piece (Elt Ideal) s e)) (B : Rect s) : v.readCov L B.toLoadRect = View.ld (View.canon L) B :=
  View.readCov_eq_canon' v L B.toLoadRect

/-- A row less its mean, and the end of the module. -/
def centre (y : Fin 1024 → EReal) (e : Fin 1024) : EReal :=
  y e - Ideal.div (∑ x : Fin 1024, y x) (Ideal.ofBits FTy.f32 1149239296#32)

theorem pay16_at (v209 v214 w1 s1 w2 s2 w3 s3 w4 s4 b) (r : Fin 256) (e : Fin 1024) :
    k0_pay16 (F := Ideal) v209 v214 w1 s1 w2 s2 w3 s3 w4 s4 b (ix2 r e)
      = centre (fun x => v209 (ix2 r x) + v214 (ix2 r x) + w1 (ix2 0 x) * s1 (ix2 r x) + w2 (ix2 0 x) * s2 (ix2 r x)
          + w3 (ix2 0 x) * s3 (ix2 r x) + w4 (ix2 0 x) * s4 (ix2 r x) + b (ix2 0 x)) e := by
  unfold centre
  pointwise [k0_pay16]

theorem pay17_at (v209 v214 w1 s1 w2 s2 w3 s3 w4 s4 b) (r : Fin 256) :
    k0_pay17 (F := Ideal) v209 v214 w1 s1 w2 s2 w3 s3 w4 s4 b (ix2 r 0)
      = ∑ x, k0_pay16 (F := Ideal) v209 v214 w1 s1 w2 s2 w3 s3 w4 s4 b (ix2 r x) * k0_pay16 (F := Ideal) v209 v214 w1 s1 w2 s2 w3 s3 w4 s4 b (ix2 r x) := by
  pointwise [k0_pay17]

theorem pay1_at (d v g b z) (r : Fin 256) (e : Fin 1024) :
    k0_pay1 (F := Ideal) d v (Scalar.ofBits .f32 0x44800000#32) g b z (ix2 r e)
      = silu (d (ix2 r e) * Ideal.rsqrt (Ideal.div (v (ix2 r 0)) (Ideal.ofBits FTy.f32 1149239296#32) + Ideal.ofBits FTy.f32 897988541#32)
          * g (ix2 0 e) + b (ix2 0 e)) * silu (z (ix2 r e)) := by
  simp only [silu, lgs, ← zero_sub]
  pointwise [k0_pay1]

theorem tail_at (v209 v214 w1 s1 w2 s2 w3 s3 w4 s4 b g l z) (r : Fin 256) (e : Fin 1024) :
    k0_pay1 (F := Ideal) (k0_pay16 v209 v214 w1 s1 w2 s2 w3 s3 w4 s4 b) (k0_pay17 v209 v214 w1 s1 w2 s2 w3 s3 w4 s4 b)
        (Scalar.ofBits .f32 0x44800000#32) g l z (ix2 r e)
      = silu (normAt (fun x => v209 (ix2 r x) + v214 (ix2 r x) + w1 (ix2 0 x) * s1 (ix2 r x) + w2 (ix2 0 x) * s2 (ix2 r x)
          + w3 (ix2 0 x) * s3 (ix2 r x) + w4 (ix2 0 x) * s4 (ix2 r x) + b (ix2 0 x)) (g (ix2 0 e)) (l (ix2 0 e)) e) * silu (z (ix2 r e)) := by
  rw [pay1_at, pay17_at]
  simp only [pay16_at]
  rfl

section
variable (c : Dev nD) (i : grid0.Coords) (a1 : Memref sig .tc .vmem S256x1024 .bf16) (h1 : a1.IsWhole) (a2 : Memref sig .tc .vmem S256x1024 .bf16) (h2 : a2.IsWhole) (a3 : Memref sig .tc .vmem S16x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S16x1024 .bf16) (h6 : a6.IsWhole) (a7 : Memref sig .tc .vmem S256x1024 .bf16) (h7 : a7.IsWhole) (a8 : Memref sig .tc .vmem S32x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S256x1024 .bf16) (h12 : a12.IsWhole) (a13 : Memref sig .tc .vmem S288x1024 .f32) (h13 : a13.IsWhole)
    (x0 : Vec Ideal S256x1024 .bf16) (x1 : Vec Ideal S256x1024 .bf16) (x2 : Vec Ideal S16x1024 .bf16) (x3 : Vec Ideal S16x1024 .bf16) (x4 : Vec Ideal S16x1024 .bf16) (x5 : Vec Ideal S16x1024 .bf16) (x6 : Vec Ideal S256x1024 .bf16) (x7 : Vec Ideal S32x1024 .f32) (x8 : Vec Ideal S1x1024 .f32) (x9 : Vec Ideal S1x1024 .f32) (x10 : Vec Ideal S1x1024 .f32)

/-- The test for the last tile of a stream. -/
abbrev lastBit : BitVec 1 := Scalar.ori (Scalar.cmpi .eq (BitVec.ofNat 32 (i 0).val) 63#32) (Scalar.cmpi .eq (BitVec.ofNat 32 (i 0).val) 64#32)

theorem out_at (r : Fin 256) (e : Fin 1024) :
    out0_A_11 (F := Ideal) c i a1 h1 a2 h2 a3 h3 a4 h4 a5 h5 a6 h6 a7 h7 a8 h8 a9 h9 a10 h10 a11 h11 a12 h12 a13 h13 x0 x1 x2 x3 x4 x5 x6 x7 x8 x9 x10 (ix2 r e)
      = silu (normAt (fun x => acc (fun k => x7 (ix2 ⟨k.val, by omega⟩ x))
          (fun k => scr (k0_pay2 i x2 x3) (k0_pay4 (k0_pay3 x0 x1)) (k0_pay5 (lastBit i) x4 x5) (ix2 ⟨1 + k.val + r.val, by omega⟩ x)) 30 (by omega)
            + x8 (ix2 0 x)) (x9 (ix2 0 e)) (x10 (ix2 0 e)) e) * silu (x6 (ix2 r e)) := by
  frame_out
  simp only [readCov_eq_ld, canon_scr]
  refine (tail_at _ _ _ _ _ _ _ _ _ _ _ _ _ _ r e).trans ?_
  refine congrArg (fun y => silu (normAt y (x9 (ix2 0 e)) (x10 (ix2 0 e)) e) * silu (x6 (ix2 r e))) (funext fun x => ?_)
  generalize scr _ _ _ = s
  simp only [acc]
  pointwise [k0_pay14, k0_pay13, k0_pay12, k0_pay11, k0_pay10, k0_pay9, k0_pay8, k0_pay7, k0_pay6, k0_pay15]
end
end Cert.Conv
end
-- ==== Proof.ConvRef.lean ====
module

public import proofs.«01_k».proof.Proof.Gen.ReferenceConvIdeal.Run
public import proofs.«01_k».proof.Proof.ConvFormula

@[expose] public section

/-!
# The convolution module: the reference's result

The reference's operations are named step by step; each step is read at an index.
-/

set_option maxRecDepth 16384

noncomputable section

namespace Cert.Conv

open Cert.ReferenceConvIdeal Cert.ReferenceConvIdeal.Gen Idealize.ShloMosaic Idealize.ShloMosaic.TcCoe Idealize.SL.Sem

/-- A logistic factor, as the reference's operations compute it. -/
def sigT (x : FVec Ideal S16640x1024 .f32) : FVec Ideal S16640x1024 .f32 :=
  Host.divf (broadcastInDim S16640x1024 ![] bcast_S_S16640x1024 (constant S_ .f32 0x3F800000#32)) (addf (broadcastInDim S16640x1024 ![] bcast_S_S16640x1024 (constant S_ .f32 0x3F800000#32)) (Host.exp (Host.negf x)))

theorem sigT_at (x) (n : Fin 16640) (e : Fin 1024) : sigT x (ix2 n e) = lgs (x (ix2 n e)) := by
  pointwise [sigT, lgs]

section
variable (Z : FVec Ideal S16640x7168 .bf16) (W : FVec Ideal S31x1024 .f32) (B G L : FVec Ideal S1024 .f32)

def gluT : FVec Ideal S16640x1024 .f32 :=
  mulf (extf .f32 (extractStridedSlice S16640x1024 ![0, 4096] Z slices_S16640x7168_S16640x1024_0_4096) bitsLt_bf16_f32) (sigT (extf .f32 (extractStridedSlice S16640x1024 ![0, 5120] Z slices_S16640x7168_S16640x1024_0_5120) bitsLt_bf16_f32))

theorem gluT_at (n : Fin 16640) (e : Fin 1024) : gluT Z (ix2 n e) = gluAt Z n e := by
  pointwise [gluT, gluAt, sigT, lgs]

/-- The latent rows and the context rows, each between 15 rows of zeros. -/
def latT (u : FVec Ideal S16640x1024 .f32) : FVec Ideal S16414x1024 .f32 :=
  pad S16414x1024 ![15, 0] ![15, 0] ![0, 0] (extractStridedSlice S16384x1024 ![0, 0] u slices_S16640x1024_S16384x1024_0_0) (sitofp .f32 (constantI S_ 32 0#32)) pads_S16384x1024_S16414x1024_15150_000 h_S_
def ctxT (u : FVec Ideal S16640x1024 .f32) : FVec Ideal S286x1024 .f32 :=
  pad S286x1024 ![15, 0] ![15, 0] ![0, 0] (extractStridedSlice S256x1024 ![16384, 0] u slices_S16640x1024_S256x1024_16384_0) (sitofp .f32 (constantI S_ 32 0#32)) pads_S256x1024_S286x1024_15150_000 h_S_

/-- The value padded with. -/
theorem zero_pad : FloatOps.sitofp (F := Ideal) FTy.f32 0#32 = (0 : EReal) := by
  show (((0#32 : BitVec 32).toInt : ℝ) : EReal) = 0
  simp

theorem latT_at (u) (m : Fin 16414) (e : Fin 1024) :
    latT u (ix2 m e) = if h : 15 ≤ m.val ∧ m.val - 15 < 16384 then u (ix2 ⟨m.val - 15, by omega⟩ e) else 0 := by
  rw [← zero_pad]
  pointwise [latT]

theorem ctxT_at (u) (m : Fin 286) (e : Fin 1024) :
    ctxT u (ix2 m e) = if h : 15 ≤ m.val ∧ m.val - 15 < 256 then u (ix2 ⟨16384 + (m.val - 15), by omega⟩ e) else 0 := by
  rw [← zero_pad]
  pointwise [ctxT]

theorem latS (k : ℕ) (h : k < 31) : S16414x1024.Slices ![k, 0] S16384x1024 := by
  refine ⟨rfl, fun a => ?_⟩
  match a with
  | ⟨0, _⟩ => show k + 16384 ≤ 16414; omega
  | ⟨1, _⟩ => show 0 + 1024 ≤ 1024; omega
theorem ctxS (k : ℕ) (h : k < 31) : S286x1024.Slices ![k, 0] S256x1024 := by
  refine ⟨rfl, fun a => ?_⟩
  match a with
  | ⟨0, _⟩ => show k + 256 ≤ 286; omega
  | ⟨1, _⟩ => show 0 + 1024 ≤ 1024; omega
theorem wS (k : ℕ) (h : k < 31) : S31x1024.Slices ![k, 0] S1x1024 := by
  refine ⟨rfl, fun a => ?_⟩
  match a with
  | ⟨0, _⟩ => show k + 1 ≤ 31; omega
  | ⟨1, _⟩ => show 0 + 1024 ≤ 1024; omega

/-- The rows shifted by `k`, each stream by itself. -/
def rowsT (p : FVec Ideal S16414x1024 .f32) (q : FVec Ideal S286x1024 .f32) (k : ℕ) (h : k < 31) : FVec Ideal S16640x1024 .f32 :=
  concatenate S16640x1024 0 [⟨S16384x1024, extractStridedSlice S16384x1024 ![k, 0] p (latS k h)⟩, ⟨S256x1024, extractStridedSlice S256x1024 ![k, 0] q (ctxS k h)⟩] concatenates_S16384x1024_S256x1024_S16640x1024_d0

theorem rowsT_at (p q) (k : ℕ) (h : k < 31) (n : Fin 16640) (e : Fin 1024) :
    rowsT p q k h (ix2 n e) = if hn : n.val < 16384 then p (ix2 ⟨k + n.val, by omega⟩ e) else q (ix2 ⟨k + (n.val - 16384), by omega⟩ e) := by
  pointwise [rowsT]

/-- A vector of columns on every row. -/
def spreadT (b : FVec Ideal S1024 .f32) : FVec Ideal S16640x1024 .f32 :=
  broadcastInDim S16640x1024 ![0, 1] bcast_S1x1024_S16640x1024_0_1 (broadcastInDim S1x1024 ![1] bcast_S1024_S1x1024_1 b)

theorem spreadT_at (b) (n : Fin 16640) (e : Fin 1024) : spreadT b (ix2 n e) = b (ix1 e) := by
  pointwise [spreadT]

/-- One tap's weights. -/
def tapT (k : ℕ) (h : k < 31) : FVec Ideal S1024 .f32 :=
  shapeCast _ (extractStridedSlice S1x1024 ![k, 0] W (wS k h)) shapeCasts_S1x1024_S1024

theorem tapT_at (k : ℕ) (h : k < 31) (e : Fin 1024) : tapT W k h (ix1 e) = W (ix2 ⟨k, h⟩ e) := by
  pointwise [tapT]

/-- The first `k + 1` taps. -/
def accT (p : FVec Ideal S16414x1024 .f32) (q : FVec Ideal S286x1024 .f32) : (k : ℕ) → k < 31 → FVec Ideal S16640x1024 .f32
  | 0, h => mulf (spreadT (tapT W 0 h)) (rowsT p q 0 h)
  | k + 1, h => addf (accT p q k (Nat.lt_of_succ_lt h)) (mulf (spreadT (tapT W (k + 1) h)) (rowsT p q (k + 1) h))

theorem rowsT_glu (k : ℕ) (h : k < 31) (n : Fin 16640) (e : Fin 1024) :
    rowsT (latT (gluT Z)) (ctxT (gluT Z)) k h (ix2 n e) = shAt Z n ⟨k, h⟩ e := by
  rw [rowsT_at]
  unfold shAt
  by_cases hn : n.val < 16384
  · rw [dif_pos hn, latT_at]
    by_cases hm : 15 ≤ k + n.val ∧ k + n.val - 15 < 16384
    · have hs : inStream n.val (n.val + k) := Or.inl ⟨hn, by omega⟩
      rw [dif_pos hs]
      refine (dif_pos hm).trans ((gluT_at Z _ e).trans ?_)
      refine congrArg (fun x => gluAt Z x e) ?_
      exact Fin.ext (by show k + n.val - 15 = n.val + k - 15; omega)
    · have hs : ¬inStream n.val (n.val + k) := by unfold inStream; omega
      rw [dif_neg hs]
      exact dif_neg hm
  · rw [dif_neg hn, ctxT_at]
    by_cases hm : 15 ≤ k + (n.val - 16384) ∧ k + (n.val - 16384) - 15 < 256
    · have hs : inStream n.val (n.val + k) := Or.inr ⟨by omega, by omega⟩
      rw [dif_pos hs]
      refine (dif_pos hm).trans ((gluT_at Z _ e).trans ?_)
      refine congrArg (fun x => gluAt Z x e) ?_
      exact Fin.ext (by show 16384 + (k + (n.val - 16384) - 15) = n.val + k - 15; omega)
    · have hs : ¬inStream n.val (n.val + k) := by unfold inStream; omega
      rw [dif_neg hs]
      exact dif_neg hm

theorem accT_at (n : Fin 16640) (e : Fin 1024) (k : ℕ) : ∀ h : k < 31,
    accT W (latT (gluT Z)) (ctxT (gluT Z)) k h (ix2 n e) = acc (fun k => W (ix2 k e)) (fun k => shAt Z n k e) k h := by
  have hp : ∀ (x y : FVec Ideal S16640x1024 .f32), mulf x y (ix2 n e) = x (ix2 n e) * y (ix2 n e) := fun x y => by pointwise
  have ha : ∀ (x y : FVec Ideal S16640x1024 .f32), addf x y (ix2 n e) = x (ix2 n e) + y (ix2 n e) := fun x y => by pointwise
  induction k with
  | zero =>
    intro h
    rw [accT, acc, hp, spreadT_at, tapT_at, rowsT_glu]
  | succ k ih =>
    intro h
    rw [accT, acc, ha, hp, spreadT_at, tapT_at, rowsT_glu, ih]

def convT : FVec Ideal S16640x1024 .f32 := addf (accT W (latT (gluT Z)) (ctxT (gluT Z)) 30 (by omega)) (spreadT B)

theorem convT_at (n : Fin 16640) (e : Fin 1024) : convT Z W B (ix2 n e) = convAt Z W B n e := by
  unfold convAt
  rw [← accT_at]
  pointwise [convT, spreadT]

/-- The columns less their mean. -/
def centreT (y : FVec Ideal S16640x1024 .f32) : FVec Ideal S16640x1024 .f32 :=
  subf y (broadcastInDim S16640x1024 ![0, 1] bcast_S16640x1_S16640x1024_0_1 (Host.divf (broadcastInDim S16640x1 ![0] bcast_S16640_S16640x1_0 (Host.reduceAdd y (constant S_ .f32 0x00000000#32) reducesTo_S16640x1024_S16640_d1 h_S_)) (broadcastInDim S16640x1 ![] bcast_S_S16640x1 (constant S_ .f32 0x44800000#32))))

def normT (d : FVec Ideal S16640x1024 .f32) : FVec Ideal S16640x1024 .f32 :=
  addf (mulf (mulf d (broadcastInDim S16640x1024 ![0, 1] bcast_S16640x1_S16640x1024_0_1 (Host.rsqrt (addf (Host.divf (broadcastInDim S16640x1 ![0] bcast_S16640_S16640x1_0 (Host.reduceAdd (mulf d d) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (spreadT G)) (spreadT L)

theorem centreT_at (y) (n : Fin 16640) (e : Fin 1024) :
    centreT y (ix2 n e) = y (ix2 n e) - Ideal.div (∑ x : Fin 1024, y (ix2 n x)) (Ideal.ofBits FTy.f32 1149239296#32) := by
  pointwise [centreT]

theorem normT_at (d) (n : Fin 16640) (e : Fin 1024) :
    normT G L d (ix2 n e) = d (ix2 n e) * Ideal.rsqrt (Ideal.div (∑ x : Fin 1024, d (ix2 n x) * d (ix2 n x)) (Ideal.ofBits FTy.f32 1149239296#32)
        + Ideal.ofBits FTy.f32 897988541#32) * G (ix1 e) + L (ix1 e) := by
  pointwise [normT, spreadT]

/-- The gate's columns. -/
def gateT : FVec Ideal S16640x1024 .f32 :=
  extf .f32 (extractStridedSlice S16640x1024 ![0, 6144] Z slices_S16640x7168_S16640x1024_0_6144) bitsLt_bf16_f32

theorem gateT_at (n : Fin 16640) (e : Fin 1024) : gateT Z (ix2 n e) = Z (ix2 n ⟨6144 + e.val, by omega⟩) := by
  pointwise [gateT]

/-- The product of two SiLUs. -/
def endT (y g : FVec Ideal S16640x1024 .f32) : FVec Ideal S16640x1024 .bf16 :=
  truncf .bf16 (mulf (mulf y (sigT y)) (mulf g (sigT g))) bitsLt_bf16_f32

theorem endT_at (y g) (n : Fin 16640) (e : Fin 1024) : endT y g (ix2 n e) = silu (y (ix2 n e)) * silu (g (ix2 n e)) := by
  pointwise [endT, silu, sigT, lgs]

theorem ref_eq : endT (normT G L (centreT (convT Z W B))) (gateT Z) = resArr Z W B G L := by
  funext j
  obtain ⟨n, e, rfl⟩ : ∃ (n : Fin 16640) (e : Fin 1024), j = ix2 n e := ⟨j 0, j 1, eq_ix2 j⟩
  show _ = resAt Z W B G L n e
  unfold resAt normAt
  rw [endT_at, normT_at, gateT_at]
  simp only [centreT_at, convT_at]

end

section
variable (m : (ℓ : Loc nD τ sig) → Buf (Elt Ideal) ℓ) (c : Dev nD)

abbrev RZ : FVec Ideal S16640x7168 .bf16 := m ((c.tc : Thread nD τ).loc main_arg0)
abbrev RW : FVec Ideal S31x1024 .f32 := m ((c.tc : Thread nD τ).loc main_arg1)
abbrev RB : FVec Ideal S1024 .f32 := m ((c.tc : Thread nD τ).loc main_arg2)
abbrev RG : FVec Ideal S1024 .f32 := m ((c.tc : Thread nD τ).loc main_arg3)
abbrev RL : FVec Ideal S1024 .f32 := m ((c.tc : Thread nD τ).loc main_arg4)

open Cert.ReferenceConvIdeal.Value Idealize.ShloMosaic.StableHlo

theorem v10_eq : res_main_v10 (F := Ideal) (launchContents m c) = gluT (RZ m c) := rfl
theorem v12_eq : res_main_v12 (F := Ideal) (launchContents m c) = latT (gluT (RZ m c)) := by
  unfold res_main_v12; rw [v10_eq]; rfl
theorem v14_eq : res_main_v14 (F := Ideal) (launchContents m c) = ctxT (gluT (RZ m c)) := by
  unfold res_main_v14; rw [v10_eq]; rfl
theorem v85_eq : res_main_v85 (F := Ideal) (launchContents m c) = accT (RW m c) (latT (gluT (RZ m c))) (ctxT (gluT (RZ m c))) 7 (by omega) := by
  unfold res_main_v85; rw [v12_eq, v14_eq]; rfl
theorem v157_eq : res_main_v157 (F := Ideal) (launchContents m c) = accT (RW m c) (latT (gluT (RZ m c))) (ctxT (gluT (RZ m c))) 15 (by omega) := by
  unfold res_main_v157; rw [v85_eq, v12_eq, v14_eq]; rfl
theorem v220_eq : res_main_v220 (F := Ideal) (launchContents m c) = accT (RW m c) (latT (gluT (RZ m c))) (ctxT (gluT (RZ m c))) 22 (by omega) := by
  unfold res_main_v220; rw [v157_eq, v12_eq, v14_eq]; rfl
theorem v283_eq : res_main_v283 (F := Ideal) (launchContents m c) = accT (RW m c) (latT (gluT (RZ m c))) (ctxT (gluT (RZ m c))) 29 (by omega) := by
  unfold res_main_v283; rw [v220_eq, v12_eq, v14_eq]; rfl
theorem v295_eq : res_main_v295 (F := Ideal) (launchContents m c) = convT (RZ m c) (RW m c) (RB m c) := by
  unfold res_main_v295; rw [v283_eq, v12_eq, v14_eq]; rfl
theorem v301_eq : res_main_v301 (F := Ideal) (launchContents m c) = centreT (convT (RZ m c) (RW m c) (RB m c)) := by
  unfold res_main_v301; rw [v295_eq]; rfl
theorem v317_eq : res_main_v317 (F := Ideal) (launchContents m c) = normT (RG m c) (RL m c) (centreT (convT (RZ m c) (RW m c) (RB m c))) := by
  unfold res_main_v317; rw [v301_eq]; rfl
theorem v320_eq : res_main_v320 (F := Ideal) (launchContents m c) = gateT (RZ m c) := rfl

end

/-- The reference's run, with its result named by the steps. -/
theorem refRun (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v323)
        = resArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [v317_eq, v320_eq]
      exact ref_eq _ _ _ _ _), (h c).2⟩) (Cert.ReferenceConvIdeal.Value.run m ρ)

end Cert.Conv

end
-- ==== Proof.ConvKer.lean ====
module

public import proofs.«01_k».proof.Proof.ConvPay
public import proofs.«01_k».proof.Proof.ConvRef
public import Idealize.ShloMosaic.Lib.Routing.OpsPair
public import Idealize.ShloMosaic.Lib.Routing.OpsSet

@[expose] public section

/-!
# The convolution kernel's result array

Point `t` of the grid writes rows `256 t` to `256 t + 255`.
-/

set_option maxRecDepth 16384

noncomputable section

namespace Cert.Conv

open Cert.KernelConvIdeal Cert.KernelConvIdeal.Gen Idealize.ShloMosaic Idealize.ShloMosaic.TcCoe Idealize.SL.Sem
open Idealize.ShloMosaic.Pipeline (Dat)

theorem first_bit : ∀ i : Fin 65, Scalar.ori (Scalar.cmpi .eq (BitVec.ofNat 32 i.val) 0#32) (Scalar.cmpi .eq (BitVec.ofNat 32 i.val) 64#32)
    = if i.val = 0 ∨ i.val = 64 then 1#1 else 0#1 := by decide +kernel

theorem last_bit : ∀ i : Fin 65, Scalar.ori (Scalar.cmpi .eq (BitVec.ofNat 32 i.val) 63#32) (Scalar.cmpi .eq (BitVec.ofNat 32 i.val) 64#32)
    = if i.val = 63 ∨ i.val = 64 then 1#1 else 0#1 := by decide +kernel

theorem idx : ∀ t : Fin cfg0.N, win0_0.index t = ![t.val, 4] ∧ win0_1.index t = ![t.val, 5]
    ∧ win0_2.index t = ![t.val * 16 - 1, 4] ∧ win0_3.index t = ![t.val * 16 - 1, 5]
    ∧ win0_4.index t = ![min ((t.val + 1) * 16) 1039, 4] ∧ win0_5.index t = ![min ((t.val + 1) * 16) 1039, 5]
    ∧ win0_6.index t = ![t.val, 6] ∧ win0_7.index t = ![0, 0] ∧ win0_8.index t = ![0, 0] ∧ win0_9.index t = ![0, 0]
    ∧ win0_10.index t = ![0, 0] ∧ win0_11.index t = ![t.val, 0] ∧ t.val < 65 ∧ ((grid0.coords t) 0).val = t.val :=
  (by decide +kernel : ∀ t : Fin grid0.N, _)

theorem lands (ix : IVec S1 32) (hx : ∀ q, ix q = 0#32) (k' : Fin 31) (e' e : Fin 1024) (k : Fin 32) :
    (scatter_S32x1024_S1_S31x1024_01_n_0_0).resultIdx? (ix2 k' e') ix = some (ix2 k e) ↔ k'.val = k.val ∧ e' = e := by
  rw [Routing.resultIdx?_eq_some]
  have s0 : (scatter_S32x1024_S1_S31x1024_01_n_0_0).start (ix2 k' e') ix 0 = 0 := by
    unfold ScatterDims.start
    rw [dif_pos (by exact List.mem_singleton.2 rfl), hx]
    rfl
  have s1 : (scatter_S32x1024_S1_S31x1024_01_n_0_0).start (ix2 k' e') ix 1 = 0 := by
    unfold ScatterDims.start
    rw [dif_neg (by exact fun h => absurd (List.mem_singleton.1 h) (by decide : (1 : Fin 2) ≠ 0))]
  have w0 : (scatter_S32x1024_S1_S31x1024_01_n_0_0).window (ix2 k' e') 0 = k'.val := by
    rfl
  have w1 : (scatter_S32x1024_S1_S31x1024_01_n_0_0).window (ix2 k' e') 1 = e'.val := by
    rfl
  constructor
  · intro h
    have h0 := h 0
    have h1 := h 1
    rw [s0, w0] at h0
    rw [s1, w1] at h1
    have h0 : 0 + (k'.val : Int) = (k.val : Int) := h0
    have h1 : 0 + (e'.val : Int) = (e.val : Int) := h1
    exact ⟨by omega, Fin.ext (by omega)⟩
  · rintro ⟨h, rfl⟩ a
    match a with
    | ⟨0, _⟩ =>
      refine (congrArg₂ (fun (p : Int) (q : Nat) => p + (q : Int)) s0 w0).trans ?_
      show 0 + (k'.val : Int) = (k.val : Int)
      omega
    | ⟨1, _⟩ =>
      refine (congrArg₂ (fun (p : Int) (q : Nat) => p + (q : Int)) s1 w1).trans ?_
      show 0 + (e'.val : Int) = (e'.val : Int)
      omega

/-- The rows before the tile, or zero where the tile is the first of its stream. -/
theorem pay2_at (i : grid0.Coords) (x2 x3) (r : Fin 16) (e : Fin 1024) :
    k0_pay2 (F := Ideal) i x2 x3 (ix2 r e) = if (i 0).val = 0 ∨ (i 0).val = 64 then 0 else x2 (ix2 r e) * lgs (x3 (ix2 r e)) := by
  simp only [lgs, ← zero_sub]
  unfold k0_pay2
  split
  next h =>
    have hb := (first_bit (i 0)).trans (if_pos h)
    dsimp only
    rw [hb]
    pointwise
  next h =>
    have hb := (first_bit (i 0)).trans (if_neg h)
    dsimp only
    rw [hb]
    pointwise

/-- The rows after the tile, or zero where the tile is the last of its stream. -/
theorem pay5_at (i : grid0.Coords) (x4 x5) (r : Fin 16) (e : Fin 1024) :
    k0_pay5 (F := Ideal) (lastBit i) x4 x5 (ix2 r e) = if (i 0).val = 63 ∨ (i 0).val = 64 then 0 else x4 (ix2 r e) * lgs (x5 (ix2 r e)) := by
  simp only [lgs, ← zero_sub]
  unfold k0_pay5 lastBit
  split
  next h =>
    have hb := (last_bit (i 0)).trans (if_pos h)
    rw [hb]
    pointwise
  next h =>
    have hb := (last_bit (i 0)).trans (if_neg h)
    rw [hb]
    pointwise

theorem pay34_at (x0 x1) (r : Fin 256) (e : Fin 1024) :
    k0_pay4 (F := Ideal) (k0_pay3 x0 x1) (ix2 r e) = x0 (ix2 r e) * lgs (x1 (ix2 r e)) := by
  simp only [lgs, ← zero_sub]
  pointwise [k0_pay4, k0_pay3]

variable (m : (ℓ : Loc nD τ sig) → Buf (Elt Ideal) ℓ) (c : Dev nD)

abbrev Z : FVec Ideal S16640x7168 .bf16 := m ((c : Thread nD τ).loc main_arg0)
abbrev W : FVec Ideal S31x1024 .f32 := m ((c : Thread nD τ).loc main_arg1)
abbrev B : FVec Ideal S1024 .f32 := m ((c : Thread nD τ).loc main_arg2)
abbrev G : FVec Ideal S1024 .f32 := m ((c : Thread nD τ).loc main_arg3)
abbrev L : FVec Ideal S1024 .f32 := m ((c : Thread nD τ).loc main_arg4)

/-- The padded weights: row `k` of the 31. -/
theorem w_entry (k : Fin 31) (e : Fin 1024) : (show Vec Ideal S32x1024 .f32 from V m c main_v2) (ix2 ⟨k.val, by omega⟩ e) = W m c (ix2 k e) := by
  entry_read
  refine Routing.scatter_set_hit _ _ _ _ _ _ (fun q hq => ?_) (ix2 k e) ((lands _ (fun q => rfl) k e e ⟨k.val, _⟩).2 ⟨rfl, rfl⟩)
  rw [eq_ix2 q] at hq ⊢
  obtain ⟨h0, h1⟩ := (lands _ (fun q => rfl) (q 0) (q 1) e ⟨k.val, _⟩).1 hq
  exact congrArg (W m c) (congrArg₂ ix2 (Fin.ext h0) h1)

theorem b_entry (e : Fin 1024) : (show Vec Ideal S1x1024 .f32 from V m c main_v3) (ix2 0 e) = B m c (ix1 e) := by
  entry_read
  pointwise
theorem g_entry (e : Fin 1024) : (show Vec Ideal S1x1024 .f32 from V m c main_v4) (ix2 0 e) = G m c (ix1 e) := by
  entry_read
  pointwise
theorem l_entry (e : Fin 1024) : (show Vec Ideal S1x1024 .f32 from V m c main_v5) (ix2 0 e) = L m c (ix1 e) := by
  entry_read
  pointwise

section blocks
variable (t : Fin cfg0.N)

theorem t_lt : t.val < 65 := (idx t).2.2.2.2.2.2.2.2.2.2.2.2.1

def rowAt (r : Fin 256) : Fin 16640 := ⟨t.val * 256 + r.val, by have := t_lt t; omega⟩
def prevAt (r : Fin 16) : Fin 16640 := ⟨(t.val * 16 - 1) * 16 + r.val, by have := t_lt t; omega⟩
def nextAt (r : Fin 16) : Fin 16640 := ⟨min ((t.val + 1) * 16) 1039 * 16 + r.val, by have := t_lt t; omega⟩

theorem blk0 (r : Fin 256) (e : Fin 1024) : (show Vec Ideal S256x1024 .bf16 from iblk m c 0 t) (ix2 r e) = Z m c (ix2 (rowAt t r) ⟨4096 + e.val, by omega⟩) := by
  blk_ext [iblk, V, idx t, rowAt]
theorem blk1 (r : Fin 256) (e : Fin 1024) : (show Vec Ideal S256x1024 .bf16 from iblk m c 1 t) (ix2 r e) = Z m c (ix2 (rowAt t r) ⟨5120 + e.val, by omega⟩) := by
  blk_ext [iblk, V, idx t, rowAt]
theorem blk2 (r : Fin 16) (e : Fin 1024) : (show Vec Ideal S16x1024 .bf16 from iblk m c 2 t) (ix2 r e) = Z m c (ix2 (prevAt t r) ⟨4096 + e.val, by omega⟩) := by
  blk_ext [iblk, V, idx t, prevAt]
theorem blk3 (r : Fin 16) (e : Fin 1024) : (show Vec Ideal S16x1024 .bf16 from iblk m c 3 t) (ix2 r e) = Z m c (ix2 (prevAt t r) ⟨5120 + e.val, by omega⟩) := by
  blk_ext [iblk, V, idx t, prevAt]
theorem blk4 (r : Fin 16) (e : Fin 1024) : (show Vec Ideal S16x1024 .bf16 from iblk m c 4 t) (ix2 r e) = Z m c (ix2 (nextAt t r) ⟨4096 + e.val, by omega⟩) := by
  blk_ext [iblk, V, idx t, nextAt]
theorem blk5 (r : Fin 16) (e : Fin 1024) : (show Vec Ideal S16x1024 .bf16 from iblk m c 5 t) (ix2 r e) = Z m c (ix2 (nextAt t r) ⟨5120 + e.val, by omega⟩) := by
  blk_ext [iblk, V, idx t, nextAt]
theorem blk6 (r : Fin 256) (e : Fin 1024) : (show Vec Ideal S256x1024 .bf16 from iblk m c 6 t) (ix2 r e) = Z m c (ix2 (rowAt t r) ⟨6144 + e.val, by omega⟩) := by
  blk_ext [iblk, V, idx t, rowAt]
theorem blk7 (k : Fin 32) (e : Fin 1024) : (show Vec Ideal S32x1024 .f32 from iblk m c 7 t) (ix2 k e)
    = (show Vec Ideal S32x1024 .f32 from V m c main_v2) (ix2 k e) := by
  unfold iblk
  generalize V m c main_v2 = w
  blk_ext [idx t]
theorem blk8 : (show Vec Ideal S1x1024 .f32 from iblk m c 8 t) = V m c main_v3 := by
  blk_ext! [iblk, idx t]
theorem blk9 : (show Vec Ideal S1x1024 .f32 from iblk m c 9 t) = V m c main_v4 := by
  blk_ext! [iblk, idx t]
theorem blk10 : (show Vec Ideal S1x1024 .f32 from iblk m c 10 t) = V m c main_v5 := by
  blk_ext! [iblk, idx t]

/-- A row of the scratch is a row of the gated linear unit, or zero outside the stream. -/
theorem scr_at (r : Fin 256) (k : Fin 31) (e : Fin 1024) :
    scr (k0_pay2 (F := Ideal) (grid0.coords t) (iblk m c 2 t) (iblk m c 3 t)) (k0_pay4 (k0_pay3 (iblk m c 0 t) (iblk m c 1 t)))
        (k0_pay5 (lastBit (grid0.coords t)) (iblk m c 4 t) (iblk m c 5 t)) (ix2 ⟨1 + k.val + r.val, by omega⟩ e)
      = shAt (Z m c) (rowAt t r) k e := by
  have ht := t_lt t
  have hc : ((grid0.coords t) 0).val = t.val := (idx t).2.2.2.2.2.2.2.2.2.2.2.2.2
  unfold shAt
  have hn : (rowAt t r).val = t.val * 256 + r.val := rfl
  by_cases q : 1 + k.val + r.val < 16
  · refine (scr_A _ _ _ _ (ix2 ⟨1 + k.val + r.val, q⟩ e) rfl rfl).trans ((pay2_at _ _ _ _ e).trans ?_)
    rw [hc]
    by_cases h : t.val = 0 ∨ t.val = 64
    · rw [if_pos h, dif_neg (by unfold inStream; omega)]
    · have hs : inStream (rowAt t r).val ((rowAt t r).val + k.val) := by unfold inStream; omega
      rw [if_neg h, dif_pos hs]
      refine (congrArg₂ (fun x y => x * lgs y) (blk2 m c t _ e) (blk3 m c t _ e)).trans ?_
      refine congrArg (fun n => gluAt (Z m c) n e) (Fin.ext ?_)
      show (t.val * 16 - 1) * 16 + (1 + k.val + r.val) = (rowAt t r).val + k.val - 15
      omega
  · by_cases q' : 1 + k.val + r.val < 272
    · refine (scr_M _ _ _ _ (ix2 ⟨1 + k.val + r.val - 16, by omega⟩ e) ?_ rfl).trans ((pay34_at _ _ _ e).trans ?_)
      · show 1 + k.val + r.val = 1 + k.val + r.val - 16 + 16
        omega
      · have hs : inStream (rowAt t r).val ((rowAt t r).val + k.val) := by unfold inStream; omega
        rw [dif_pos hs]
        refine (congrArg₂ (fun x y => x * lgs y) (blk0 m c t _ e) (blk1 m c t _ e)).trans ?_
        refine congrArg (fun n => gluAt (Z m c) n e) (Fin.ext ?_)
        show t.val * 256 + (1 + k.val + r.val - 16) = (rowAt t r).val + k.val - 15
        omega
    · refine (scr_E _ _ _ _ (ix2 ⟨1 + k.val + r.val - 272, by omega⟩ e) ?_ rfl).trans ((pay5_at _ _ _ _ e).trans ?_)
      · show 1 + k.val + r.val = 1 + k.val + r.val - 272 + 272
        omega
      · rw [hc]
        by_cases h : t.val = 63 ∨ t.val = 64
        · rw [if_pos h, dif_neg (by unfold inStream; omega)]
        · have hs : inStream (rowAt t r).val ((rowAt t r).val + k.val) := by unfold inStream; omega
          rw [if_neg h, dif_pos hs]
          refine (congrArg₂ (fun x y => x * lgs y) (blk4 m c t _ e) (blk5 m c t _ e)).trans ?_
          refine congrArg (fun n => gluAt (Z m c) n e) (Fin.ext ?_)
          show min ((t.val + 1) * 16) 1039 * 16 + (1 + k.val + r.val - 272) = (rowAt t r).val + k.val - 15
          omega

theorem point (r : Fin 256) (e : Fin 1024) :
    (outsAt0 m c t) (ix2 r e) = resAt (Z m c) (W m c) (B m c) (G m c) (L m c) (rowAt t r) e := by
  unfold outsAt0
  refine (out_at _ _ _ _ _ _ _ _ _ _ _ _ _ _ _ _ _ _ _ _ _ _ _ _ _ _ _ _ _ _ _ _ _ _ _ _ _ _ _ r e).trans ?_
  unfold resAt
  have hy : ∀ x : Fin 1024, acc (fun k => (show Vec Ideal S32x1024 .f32 from iblk m c 7 t) (ix2 ⟨k.val, by omega⟩ x))
      (fun k => scr (k0_pay2 (F := Ideal) (grid0.coords t) (iblk m c 2 t) (iblk m c 3 t)) (k0_pay4 (k0_pay3 (iblk m c 0 t) (iblk m c 1 t)))
        (k0_pay5 (lastBit (grid0.coords t)) (iblk m c 4 t) (iblk m c 5 t)) (ix2 ⟨1 + k.val + r.val, by omega⟩ x)) 30 (by omega)
        + (show Vec Ideal S1x1024 .f32 from iblk m c 8 t) (ix2 0 x) = convAt (Z m c) (W m c) (B m c) (rowAt t r) x := fun x => by
    rw [blk8]
    simp only [scr_at, blk7]
    unfold convAt
    refine congrArg₂ (fun w b => acc w _ 30 _ + b) (funext fun k => w_entry m c k x) (b_entry m c x)
  refine congrArg₂ (fun x y => silu x * silu y) ?_ (blk6 m c t r e)
  refine (congrArg₂ (fun g l => normAt _ g l e) ((congrFun (blk9 m c t) _).trans (g_entry m c e)) ((congrFun (blk10 m c t) _).trans (l_entry m c e))).trans ?_
  exact congrArg (fun y => normAt y _ _ e) (funext hy)

end blocks

theorem final : (dats m 0 c).arrAt 11 cfg0.N = resArr (Z m c) (W m c) (B m c) (G m c) (L m c) := by
  refine (dats m 0 c).arrAt_eq_of_covers 11 _ (by decide +kernel) fun t hf y => ?_
  blk_simp
  rw [after0_11]
  obtain ⟨r, e, rfl⟩ : ∃ (r : Fin 256) (e : Fin 1024), y = ix2 r e := ⟨y 0, y 1, eq_ix2 y⟩
  refine (point m c t r e).trans (resArr_at _ _ _ _ _ _ _ _ ?_ ?_).symm
  · blk_simp [idx t, rowAt]
  · blk_simp [idx t]

end Cert.Conv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceOutIdeal.Run
public import proofs.«01_k».proof.Proof.Gen.KernelIn
public import proofs.«01_k».proof.Proof.Gen.KernelIn.Skeleton
public import proofs.«01_k».proof.Proof.Gen.KernelIn.Loops
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Loops
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelInIdeal.Value
public import proofs.«01_k».proof.Proof.Gen.ReferenceInIdeal.Run
public import proofs.«01_k».proof.Proof.Gen.KernelInOdd
public import proofs.«01_k».proof.Proof.Gen.KernelInOdd.Skeleton
public import proofs.«01_k».proof.Proof.Gen.KernelInOdd.Loops
public import proofs.«01_k».proof.Proof.Gen.KernelInOdd.Launch
public import proofs.«01_k».proof.Proof.Gen.KernelInOdd.Points
public import proofs.«01_k».proof.Proof.Gen.KernelInOdd.Frame
public import proofs.«01_k».proof.Proof.Gen.KernelInOddIdeal
public import proofs.«01_k».proof.Proof.Gen.KernelInOddIdeal.Skeleton
public import proofs.«01_k».proof.Proof.Gen.KernelInOddIdeal.Loops
public import proofs.«01_k».proof.Proof.Gen.KernelInOddIdeal.Launch
public import proofs.«01_k».proof.Proof.Gen.KernelInOddIdeal.Points
public import proofs.«01_k».proof.Proof.Gen.KernelInOddIdeal.Frame
public import proofs.«01_k».proof.Proof.Gen.ReferenceInOddIdeal
public import proofs.«01_k».proof.Proof.Gen.KernelInOddIdeal.Value
public import proofs.«01_k».proof.Proof.Gen.ReferenceInOddIdeal.Run
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.KernelAdaIdeal.Value
public import proofs.«01_k».proof.Proof.Gen.ReferenceAdaIdeal.Run
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.KernelConvIdeal.Value
public import proofs.«01_k».proof.Proof.Gen.ReferenceConvIdeal.Run
public import proofs.«01_k».proof.Proof.Gen.Pre_finite
public import proofs.«01_k».proof.Proof.Bridge
public import proofs.«01_k».proof.Proof.RefFinal
public import proofs.«01_k».proof.Proof.PreFacts
public import proofs.«01_k».proof.Proof.OutKer
public import proofs.«01_k».proof.Proof.InKer
public import proofs.«01_k».proof.Proof.InOddKer
public import proofs.«01_k».proof.Proof.AdaKer
public import proofs.«01_k».proof.Proof.ConvKer
public import Idealize.ShloMosaic.Adequacy
public import Idealize.ShloMosaic.Init

@[expose] public section

noncomputable section

namespace Cert.Proof

open Idealize.ShloMosaic Idealize.SL.Sem Cert.Kernel

theorem refFrame : Cert.quiescent_ReferenceIdeal := fun m g _ =>
  (θ_run (Cert.ReferenceIdeal.defs (F := Ideal)) _ _).mono
    (fun r h => And.intro (fun c => (h c).2) (sem_eq_zero_of_no_sems (by decide) r.2)) (Cert.ReferenceIdeal.Value.run m g)

theorem value : Cert.algebraic_KernelIdeal_ReferenceIdeal_pre_finite := by
  pair_intro
  · run_from Cert.KernelIdeal.Value.run_blocks m g
  · run_from Cert.ReferenceIdeal.Value.run m' g'
    obtain ⟨q, k, v, l1, l2, l3, l4⟩ := Cert.DiffAttnPre.reals _ _ _ _ _ _ _ _ (hpre c)
    obtain ⟨a0, a1, a2, a3, a4, a5, a6, a7⟩ := hagree c
    rw [Cert.DiffAttn.final m c q k v, Cert.DiffAttnRef.res_eq m' c _ _ _ _ _ _ _ _ a0 a1 a2 a3 a4 a5 a6 a7]
    exact Cert.DiffAttnRef.result_eq _ _ _ _ _ _ _ _ q k v (Cert.DiffAttnRef.isR_lam _ _ _ _ l1 l2 l3 l4)

theorem refFrameOut : Cert.quiescent_ReferenceOutIdeal := fun m g _ =>
  (θ_run (Cert.ReferenceOutIdeal.defs (F := Ideal)) _ _).mono
    (fun r h => And.intro (fun c => (h c).2) (sem_eq_zero_of_no_sems (by decide) r.2)) (Cert.ReferenceOutIdeal.Value.run m g)

theorem refFrameIn : Cert.quiescent_ReferenceInIdeal := fun m g _ =>
  (θ_run (Cert.ReferenceInIdeal.defs (F := Ideal)) _ _).mono
    (fun r h => And.intro (fun c => (h c).2) (sem_eq_zero_of_no_sems (by decide) r.2)) (Cert.ReferenceInIdeal.Value.run m g)

theorem refFrameInOdd : Cert.quiescent_ReferenceInOddIdeal := fun m g _ =>
  (θ_run (Cert.ReferenceInOddIdeal.defs (F := Ideal)) _ _).mono
    (fun r h => And.intro (fun c => (h c).2) (sem_eq_zero_of_no_sems (by decide) r.2)) (Cert.ReferenceInOddIdeal.Value.run m g)

theorem refFrameAda : Cert.quiescent_ReferenceAdaIdeal := fun m g _ =>
  (θ_run (Cert.ReferenceAdaIdeal.defs (F := Ideal)) _ _).mono
    (fun r h => And.intro (fun c => (h c).2) (sem_eq_zero_of_no_sems (by decide) r.2)) (Cert.ReferenceAdaIdeal.Value.run m g)

theorem refFrameConv : Cert.quiescent_ReferenceConvIdeal := fun m g _ =>
  (θ_run (Cert.ReferenceConvIdeal.defs (F := Ideal)) _ _).mono
    (fun r h => And.intro (fun c => (h c).2) (sem_eq_zero_of_no_sems (by decide) r.2)) (Cert.ReferenceConvIdeal.Value.run m g)

theorem valueOut : Cert.algebraic_KernelOutIdeal_ReferenceOutIdeal := by
  pair_intro
  · run_from Cert.KernelOutIdeal.Value.run_blocks m g
  · run_from Cert.OutProj.refRun m' g'
    exact (Cert.OutProj.final m c).symm

theorem valueIn : Cert.algebraic_KernelInIdeal_ReferenceInIdeal := by
  pair_intro
  · run_from Cert.KernelInIdeal.Value.run_blocks m g
  · run_from Cert.InProj.refRun m' g'
    exact (Cert.InProj.final m c).symm

theorem valueInOdd : Cert.algebraic_KernelInOddIdeal_ReferenceInOddIdeal := by
  pair_intro
  · run_from Cert.KernelInOddIdeal.Value.run_blocks m g
  · run_from Cert.InOdd.refRun m' g'
    exact (Cert.InOdd.final m c).symm

theorem valueAda : Cert.algebraic_KernelAdaIdeal_ReferenceAdaIdeal := by
  pair_intro
  · run_from Cert.KernelAdaIdeal.Value.run_blocks m g
  · run_from Cert.Ada.refRun m' g'
    exact (Cert.Ada.final m c).symm

theorem valueConv : Cert.algebraic_KernelConvIdeal_ReferenceConvIdeal := by
  pair_intro
  · run_from Cert.KernelConvIdeal.Value.run_blocks m g
  · run_from Cert.Conv.refRun m' g'
    exact (Cert.Conv.final m c).symm

theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelInOdd.Gen.facts, Cert.KernelInOddIdeal.Gen.facts, Cert.ReferenceInOddIdeal.Gen.facts,
  Cert.KernelAda.Gen.facts, Cert.KernelAdaIdeal.Gen.facts, Cert.ReferenceAdaIdeal.Gen.facts,
  Cert.KernelConv.Gen.facts, Cert.KernelConvIdeal.Gen.facts, Cert.ReferenceConvIdeal.Gen.facts, Cert.Pre_finite.Gen.facts,
  fun m g _ => Cert.Kernel.Gen.frame m g,
  fun m g _ => Cert.KernelIdeal.Gen.frame m g,
  fun m g _ => Cert.KernelIdeal.Gen.frame m g,
  refFrame,
  fun m g _ => refFrame m g trivial,
  fun m g _ => Cert.KernelOut.Gen.frame m g,
  fun m g _ => Cert.KernelOutIdeal.Gen.frame m g,
  refFrameOut,
  fun m g _ => Cert.KernelIn.Gen.frame m g,
  fun m g _ => Cert.KernelInIdeal.Gen.frame m g,
  refFrameIn,
  fun m g _ => Cert.KernelInOdd.Gen.frame m g,
  fun m g _ => Cert.KernelInOddIdeal.Gen.frame m g,
  refFrameInOdd,
  fun m g _ => Cert.KernelAda.Gen.frame m g,
  fun m g _ => Cert.KernelAdaIdeal.Gen.frame m g,
  refFrameAda,
  fun m g _ => Cert.KernelConv.Gen.frame m g,
  fun m g _ => Cert.KernelConvIdeal.Gen.frame m g,
  refFrameConv,
  trivial, value,
  trivial, valueOut,
  trivial, valueIn,
  trivial, valueInOdd,
  trivial, valueAda,
  trivial, valueConv⟩

end Cert.Proof

end
